-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S4096x50 : Shape := ⟨2, ![4096, 50]⟩
abbrev S4096x128 : Shape := ⟨2, ![4096, 128]⟩
abbrev S100000x128 : Shape := ⟨2, ![100000, 128]⟩
abbrev S128x128 : Shape := ⟨2, ![128, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S4096x128 .f32) (main_arg2 : FVec F S100000x128 .f32) (main_arg3 : FVec F S128x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 1 := constantI S_ 1 1#1
  let main_v2 : IVec S_ 1 := (fun x v => Host.reduce IntOp.andi x v reducesTo_S4096x50_S_d0_1 h_S_) main_v1 main_c_0
  let main_c_1 : IVec S_ 32 := constantI S_ 32 100000#32
  let main_v3 : IVec S4096x50 32 := broadcastInDim S4096x50 ![] bcast_S_S4096x50 main_c_1
  let main_v4 : IVec S4096x50 1 := cmpi .slt main_arg0 main_v3
  let main_c_2 : IVec S_ 1 := constantI S_ 1 1#1
  let main_v5 : IVec S_ 1 := (fun x v => Host.reduce IntOp.andi x v reducesTo_S4096x50_S_d0_1 h_S_) main_v4 main_c_2
  let main_v6 : IVec S_ 1 := andi main_v2 main_v5
  main_v6
-- ==== Kernel.lean ====
abbrev S4096x50 : Shape := ⟨2, ![4096, 50]⟩
abbrev S4096x128 : Shape := ⟨2, ![4096, 128]⟩
abbrev S100000x128 : Shape := ⟨2, ![100000, 128]⟩
abbrev S128x128 : Shape := ⟨2, ![128, 128]⟩
abbrev S50x4096 : Shape := ⟨2, ![50, 4096]⟩
abbrev S204800 : Shape := ⟨1, ![204800]⟩
abbrev S32x50x128 : Shape := ⟨3, ![32, 50, 128]⟩
abbrev S204800x128 : Shape := ⟨2, ![204800, 128]⟩
abbrev S50x128 : Shape := ⟨2, ![50, 128]⟩
abbrev S_ : Shape := ⟨0, ![]⟩
abbrev S1x50x128 : Shape := ⟨3, ![1, 50, 128]⟩
abbrev S1x128 : Shape := ⟨2, ![1, 128]⟩
abbrev S128 : Shape := ⟨1, ![128]⟩
abbrev S50x4096x128 : Shape := ⟨3, ![50, 4096, 128]⟩
abbrev S4096x50x128 : Shape := ⟨3, ![4096, 50, 128]⟩

abbrev nBuf : Table → Nat
  | .hbm => 11
  | .local .tc .vmem => 3
  | .local .scVector .vmem => 6
  | _ => 0

abbrev bufTy : (tb : Table) → Fin (nBuf tb) → BufTy
  | .hbm, ⟨0, _⟩ => ⟨S4096x50, .i32⟩
  | .hbm, ⟨1, _⟩ => ⟨S4096x128, .f32⟩
  | .hbm, ⟨2, _⟩ => ⟨S100000x128, .f32⟩
  | .hbm, ⟨3, _⟩ => ⟨S128x128, .f32⟩
  | .hbm, ⟨4, _⟩ => ⟨S50x4096, .i32⟩
  | .hbm, ⟨5, _⟩ => ⟨S204800, .i32⟩
  | .hbm, ⟨6, _⟩ => ⟨S32x50x128, .i32⟩
  | .hbm, ⟨7, _⟩ => ⟨S204800x128, .f32⟩
  | .hbm, ⟨8, _⟩ => ⟨S50x4096x128, .f32⟩
  | .hbm, ⟨9, _⟩ => ⟨S4096x50x128, .f32⟩
  | .hbm, ⟨10, _⟩ => ⟨S4096x128, .f32⟩
  | .local .tc .vmem, ⟨0, _⟩ => ⟨S4096x128, .f32⟩
  | .local .tc .vmem, ⟨1, _⟩ => ⟨S128x128, .f32⟩
  | .local .tc .vmem, ⟨2, _⟩ => ⟨S4096x128, .f32⟩
  | .local .scVector .vmem, ⟨0, _⟩ => ⟨S50x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg2_scv : Ref sig .scVector := ⟨.hbm, 2, rfl⟩
abbrev main_v2_scv : Ref sig .scVector := ⟨.hbm, 6, rfl⟩
abbrev main_v3_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 11
abbrev cc1_sem1_0 : DmaSem sig := 12
abbrev cc1_sem2_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r0 : BitVec 32 := 0#32
  let c0_i32_30_r0 : BitVec 32 := 0#32
  ![v1.toNat, 0, 0]
@[reducible] def k0_t1_loop : Scf.Loop 32 :=
  let c0_i32_11 : BitVec 32 := 0#32
  let c10_i32 : BitVec 32 := 10#32
  let v12 : BitVec 32 := Scalar.addi c0_i32_11 c10_i32
  let c1_i32_12 : BitVec 32 := 1#32
  ⟨c0_i32_11, v12, c1_i32_12⟩
def k0_off2 (k0_t1 : Fin k0_t1_loop.trips) (c0_i32_29 : BitVec 32) : Fin 2 → Nat :=
  let c5_i32 : BitVec 32 := 5#32
  let c0_i32_11 : BitVec 32 := 0#32
  let c1_i32_12 : BitVec 32 := 1#32
  let arg21 : BitVec 32 := Scf.iv c0_i32_11 c1_i32_12 k0_t1
  let v28 : BitVec 32 := Scalar.muli c5_i32 arg21
  let v29 : BitVec 32 := Scalar.addi v28 c0_i32_29
  let c0_i32_30 : BitVec 32 := 0#32
  ![v29.toNat, 0]
def k0_off3 (i : grid0.Coords) (k0_t1 : Fin k0_t1_loop.trips) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c5_i32 : BitVec 32 := 5#32
  let c0_i32_11 : BitVec 32 := 0#32
  let c1_i32_12 : BitVec 32 := 1#32
  let arg21 : BitVec 32 := Scf.iv c0_i32_11 c1_i32_12 k0_t1
  let v28 : BitVec 32 := Scalar.muli c5_i32 arg21
  let v29 : BitVec 32 := Scalar.addi v28 c0_i32_29
  let c128_i32 : BitVec 32 := 128#32
  let v33 : BitVec 32 := Scalar.muli v29 c128_i32
  let v34 : BitVec 32 := Scalar.addi v2 v33
  let c0_i32_33 : BitVec 32 := 0#32
  ![v34.toNat, 0]
def k0_cond1 (k0_t1 : Fin k0_t1_loop.trips) : BitVec 1 :=
  let c5_i32 : BitVec 32 := 5#32
  let c0_i32_11 : BitVec 32 := 0#32
  let c1_i32_12 : BitVec 32 := 1#32
  let arg21 : BitVec 32 := Scf.iv c0_i32_11 c1_i32_12 k0_t1
  let v28 : BitVec 32 := Scalar.muli c5_i32 arg21
  let c0_i32_29 : BitVec 32 := 0#32
  let v29 : BitVec 32 := Scalar.addi v28 c0_i32_29
  let c3_i32 : BitVec 32 := 3#32
  let v37 : BitVec 32 := Scalar.addi v29 c3_i32
  let c50_i32 : BitVec 32 := 50#32
  let v38 : BitVec 1 := Scalar.cmpi .slt v37 c50_i32
  let c2_i32_35 : BitVec 32 := 2#32
  let v39 : BitVec 1 := Scalar.cmpi .sge v29 c2_i32_35
  let v40 : BitVec 1 := Scalar.andi v38 v39
  let v41 : BitVec 32 := Scalar.extui v40
  let c0_i32_36 : BitVec 32 := 0#32
  let v42 : BitVec 1 := Scalar.cmpi .ne v41 c0_i32_36
  v42

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c5_i32 : BitVec 32 := 5#32
  let c0_i32_11 : BitVec 32 := 0#32
  let c1_i32_12 : BitVec 32 := 1#32
  let arg21 : BitVec 32 := Scf.iv c0_i32_11 c1_i32_12 k0_t1
  let v28 : BitVec 32 := Scalar.muli c5_i32 arg21
  let c0_i32_29 : BitVec 32 := 0#32
  let v29 : BitVec 32 := Scalar.addi v28 c0_i32_29
  let c3_i32 : BitVec 32 := 3#32
  let v37 : BitVec 32 := Scalar.addi v29 c3_i32
  let c128_i32_94 : BitVec 32 := 128#32
  let v118 : BitVec 32 := Scalar.muli v37 c128_i32_94
  let v119 : BitVec 32 := Scalar.addi v2 v118
  let c0_i32_95 : BitVec 32 := 0#32
  ![v119.toNat, 0]
def k0_cond2 (k0_t1 : Fin k0_t1_loop.trips) : BitVec 1 :=
  let c5_i32 : BitVec 32 := 5#32
  let c0_i32_11 : BitVec 32 := 0#32
  let c1_i32_12 : BitVec 32 := 1#32
  let arg21 : BitVec 32 := Scf.iv c0_i32_11 c1_i32_12 k0_t1
  let v28 : BitVec 32 := Scalar.muli c5_i32 arg21
  let c0_i32_29 : BitVec 32 := 0#32
  let v29 : BitVec 32 := Scalar.addi v28 c0_i32_29
  let c3_i32 : BitVec 32 := 3#32
  let v37 : BitVec 32 := Scalar.addi v29 c3_i32
  let c50_i32_37 : BitVec 32 := 50#32
  let v43 : BitVec 1 := Scalar.cmpi .slt v37 c50_i32_37
  let v44 : BitVec 32 := Scalar.extui v43
  let c0_i32_38 : BitVec 32 := 0#32
  let v45 : BitVec 1 := Scalar.cmpi .ne v44 c0_i32_38
  v45

def k0_off5 (k0_t1 : Fin k0_t1_loop.trips) : Fin 2 → Nat :=
  let c5_i32 : BitVec 32 := 5#32
  let c0_i32_11 : BitVec 32 := 0#32
  let c1_i32_12 : BitVec 32 := 1#32
  let arg21 : BitVec 32 := Scf.iv c0_i32_11 c1_i32_12 k0_t1
  let v28 : BitVec 32 := Scalar.muli c5_i32 arg21
  let c0_i32_29 : BitVec 32 := 0#32
  let v29 : BitVec 32 := Scalar.addi v28 c0_i32_29
  let c3_i32 : BitVec 32 := 3#32
  let v37 : BitVec 32 := Scalar.addi v29 c3_i32
  let c0_i32_94 : BitVec 32 := 0#32
  ![v37.toNat, 0]
def k0_cond3 (k0_t1 : Fin k0_t1_loop.trips) : BitVec 1 :=
  let c5_i32_39 : BitVec 32 := 5#32
  let c0_i32_11 : BitVec 32 := 0#32
  let c1_i32_12 : BitVec 32 := 1#32
  let arg21 : BitVec 32 := Scf.iv c0_i32_11 c1_i32_12 k0_t1
  let v46 : BitVec 32 := Scalar.muli c5_i32_39 arg21
  let c1_i32_40 : BitVec 32 := 1#32
  let v47 : BitVec 32 := Scalar.addi v46 c1_i32_40
  let c3_i32_47 : BitVec 32 := 3#32
  let v55 : BitVec 32 := Scalar.addi v47 c3_i32_47
  let c50_i32_48 : BitVec 32 := 50#32
  let v56 : BitVec 1 := Scalar.cmpi .slt v55 c50_i32_48
  let c2_i32_49 : BitVec 32 := 2#32
  let v57 : BitVec 1 := Scalar.cmpi .sge v47 c2_i32_49
  let v58 : BitVec 1 := Scalar.andi v56 v57
  let v59 : BitVec 32 := Scalar.extui v58
  let c0_i32_50 : BitVec 32 := 0#32
  let v60 : BitVec 1 := Scalar.cmpi .ne v59 c0_i32_50
  v60

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c5_i32_39 : BitVec 32 := 5#32
  let c0_i32_11 : BitVec 32 := 0#32
  let c1_i32_12 : BitVec 32 := 1#32
  let arg21 : BitVec 32 := Scf.iv c0_i32_11 c1_i32_12 k0_t1
  let v46 : BitVec 32 := Scalar.muli c5_i32_39 arg21
  let c1_i32_40 : BitVec 32 := 1#32
  let v47 : BitVec 32 := Scalar.addi v46 c1_i32_40
  let c3_i32_47 : BitVec 32 := 3#32
  let v55 : BitVec 32 := Scalar.addi v47 c3_i32_47
  let c128_i32_94 : BitVec 32 := 128#32
  let v118 : BitVec 32 := Scalar.muli v55 c128_i32_94
  let v119 : BitVec 32 := Scalar.addi v2 v118
  let c0_i32_95 : BitVec 32 := 0#32
  ![v119.toNat, 0]
def k0_cond4 (k0_t1 : Fin k0_t1_loop.trips) : BitVec 1 :=
  let c5_i32_39 : BitVec 32 := 5#32
  let c0_i32_11 : BitVec 32 := 0#32
  let c1_i32_12 : BitVec 32 := 1#32
  let arg21 : BitVec 32 := Scf.iv c0_i32_11 c1_i32_12 k0_t1
  let v46 : BitVec 32 := Scalar.muli c5_i32_39 arg21
  let c1_i32_40 : BitVec 32 := 1#32
  let v47 : BitVec 32 := Scalar.addi v46 c1_i32_40
  let c3_i32_47 : BitVec 32 := 3#32
  let v55 : BitVec 32 := Scalar.addi v47 c3_i32_47
  let c50_i32_51 : BitVec 32 := 50#32
  let v61 : BitVec 1 := Scalar.cmpi .slt v55 c50_i32_51
  let v62 : BitVec 32 := Scalar.extui v61
  let c0_i32_52 : BitVec 32 := 0#32
  let v63 : BitVec 1 := Scalar.cmpi .ne v62 c0_i32_52
  v63

def k0_off7 (k0_t1 : Fin k0_t1_loop.trips) : Fin 2 → Nat :=
  let c5_i32_39 : BitVec 32 := 5#32
  let c0_i32_11 : BitVec 32 := 0#32
  let c1_i32_12 : BitVec 32 := 1#32
  let arg21 : BitVec 32 := Scf.iv c0_i32_11 c1_i32_12 k0_t1
  let v46 : BitVec 32 := Scalar.muli c5_i32_39 arg21
  let c1_i32_40 : BitVec 32 := 1#32
  let v47 : BitVec 32 := Scalar.addi v46 c1_i32_40
  let c3_i32_47 : BitVec 32 := 3#32
  let v55 : BitVec 32 := Scalar.addi v47 c3_i32_47
  let c0_i32_94 : BitVec 32 := 0#32
  ![v55.toNat, 0]
def k0_cond5 (k0_t1 : Fin k0_t1_loop.trips) : BitVec 1 :=
  let c5_i32_53 : BitVec 32 := 5#32
  let c0_i32_11 : BitVec 32 := 0#32
  let c1_i32_12 : BitVec 32 := 1#32
  let arg21 : BitVec 32 := Scf.iv c0_i32_11 c1_i32_12 k0_t1
  let v64 : BitVec 32 := Scalar.muli c5_i32_53 arg21
  let c2_i32_54 : BitVec 32 := 2#32
  let v65 : BitVec 32 := Scalar.addi v64 c2_i32_54
  let c3_i32_61 : BitVec 32 := 3#32
  let v73 : BitVec 32 := Scalar.addi v65 c3_i32_61
  let c50_i32_62 : BitVec 32 := 50#32
  let v74 : BitVec 1 := Scalar.cmpi .slt v73 c50_i32_62
  let c2_i32_63 : BitVec 32 := 2#32
  let v75 : BitVec 1 := Scalar.cmpi .sge v65 c2_i32_63
  let v76 : BitVec 1 := Scalar.andi v74 v75
  let v77 : BitVec 32 := Scalar.extui v76
  let c0_i32_64 : BitVec 32 := 0#32
  let v78 : BitVec 1 := Scalar.cmpi .ne v77 c0_i32_64
  v78

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c5_i32_53 : BitVec 32 := 5#32
  let c0_i32_11 : BitVec 32 := 0#32
  let c1_i32_12 : BitVec 32 := 1#32
  let arg21 : BitVec 32 := Scf.iv c0_i32_11 c1_i32_12 k0_t1
  let v64 : BitVec 32 := Scalar.muli c5_i32_53 arg21
  let c2_i32_54 : BitVec 32 := 2#32
  let v65 : BitVec 32 := Scalar.addi v64 c2_i32_54
  let c3_i32_61 : BitVec 32 := 3#32
  let v73 : BitVec 32 := Scalar.addi v65 c3_i32_61
  let c128_i32_94 : BitVec 32 := 128#32
  let v118 : BitVec 32 := Scalar.muli v73 c128_i32_94
  let v119 : BitVec 32 := Scalar.addi v2 v118
  let c0_i32_95 : BitVec 32 := 0#32
  ![v119.toNat, 0]
def k0_cond6 (k0_t1 : Fin k0_t1_loop.trips) : BitVec 1 :=
  let c5_i32_53 : BitVec 32 := 5#32
  let c0_i32_11 : BitVec 32 := 0#32
  let c1_i32_12 : BitVec 32 := 1#32
  let arg21 : BitVec 32 := Scf.iv c0_i32_11 c1_i32_12 k0_t1
  let v64 : BitVec 32 := Scalar.muli c5_i32_53 arg21
  let c2_i32_54 : BitVec 32 := 2#32
  let v65 : BitVec 32 := Scalar.addi v64 c2_i32_54
  let c3_i32_61 : BitVec 32 := 3#32
  let v73 : BitVec 32 := Scalar.addi v65 c3_i32_61
  let c50_i32_65 : BitVec 32 := 50#32
  let v79 : BitVec 1 := Scalar.cmpi .slt v73 c50_i32_65
  let v80 : BitVec 32 := Scalar.extui v79
  let c0_i32_66 : BitVec 32 := 0#32
  let v81 : BitVec 1 := Scalar.cmpi .ne v80 c0_i32_66
  v81

def k0_off9 (k0_t1 : Fin k0_t1_loop.trips) : Fin 2 → Nat :=
  let c5_i32_53 : BitVec 32 := 5#32
  let c0_i32_11 : BitVec 32 := 0#32
  let c1_i32_12 : BitVec 32 := 1#32
  let arg21 : BitVec 32 := Scf.iv c0_i32_11 c1_i32_12 k0_t1
  let v64 : BitVec 32 := Scalar.muli c5_i32_53 arg21
  let c2_i32_54 : BitVec 32 := 2#32
  let v65 : BitVec 32 := Scalar.addi v64 c2_i32_54
  let c3_i32_61 : BitVec 32 := 3#32
  let v73 : BitVec 32 := Scalar.addi v65 c3_i32_61
  let c0_i32_94 : BitVec 32 := 0#32
  ![v73.toNat, 0]
def k0_cond7 (k0_t1 : Fin k0_t1_loop.trips) : BitVec 1 :=
  let c5_i32_67 : BitVec 32 := 5#32
  let c0_i32_11 : BitVec 32 := 0#32
  let c1_i32_12 : BitVec 32 := 1#32
  let arg21 : BitVec 32 := Scf.iv c0_i32_11 c1_i32_12 k0_t1
  let v82 : BitVec 32 := Scalar.muli c5_i32_67 arg21
  let c3_i32_68 : BitVec 32 := 3#32
  let v83 : BitVec 32 := Scalar.addi v82 c3_i32_68
  let c3_i32_75 : BitVec 32 := 3#32
  let v91 : BitVec 32 := Scalar.addi v83 c3_i32_75
  let c50_i32_76 : BitVec 32 := 50#32
  let v92 : BitVec 1 := Scalar.cmpi .slt v91 c50_i32_76
  let c2_i32_77 : BitVec 32 := 2#32
  let v93 : BitVec 1 := Scalar.cmpi .sge v83 c2_i32_77
  let v94 : BitVec 1 := Scalar.andi v92 v93
  let v95 : BitVec 32 := Scalar.extui v94
  let c0_i32_78 : BitVec 32 := 0#32
  let v96 : BitVec 1 := Scalar.cmpi .ne v95 c0_i32_78
  v96

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c5_i32_67 : BitVec 32 := 5#32
  let c0_i32_11 : BitVec 32 := 0#32
  let c1_i32_12 : BitVec 32 := 1#32
  let arg21 : BitVec 32 := Scf.iv c0_i32_11 c1_i32_12 k0_t1
  let v82 : BitVec 32 := Scalar.muli c5_i32_67 arg21
  let c3_i32_68 : BitVec 32 := 3#32
  let v83 : BitVec 32 := Scalar.addi v82 c3_i32_68
  let c3_i32_75 : BitVec 32 := 3#32
  let v91 : BitVec 32 := Scalar.addi v83 c3_i32_75
  let c128_i32_94 : BitVec 32 := 128#32
  let v118 : BitVec 32 := Scalar.muli v91 c128_i32_94
  let v119 : BitVec 32 := Scalar.addi v2 v118
  let c0_i32_95 : BitVec 32 := 0#32
  ![v119.toNat, 0]
def k0_cond8 (k0_t1 : Fin k0_t1_loop.trips) : BitVec 1 :=
  let c5_i32_67 : BitVec 32 := 5#32
  let c0_i32_11 : BitVec 32 := 0#32
  let c1_i32_12 : BitVec 32 := 1#32
  let arg21 : BitVec 32 := Scf.iv c0_i32_11 c1_i32_12 k0_t1
  let v82 : BitVec 32 := Scalar.muli c5_i32_67 arg21
  let c3_i32_68 : BitVec 32 := 3#32
  let v83 : BitVec 32 := Scalar.addi v82 c3_i32_68
  let c3_i32_75 : BitVec 32 := 3#32
  let v91 : BitVec 32 := Scalar.addi v83 c3_i32_75
  let c50_i32_79 : BitVec 32 := 50#32
  let v97 : BitVec 1 := Scalar.cmpi .slt v91 c50_i32_79
  let v98 : BitVec 32 := Scalar.extui v97
  let c0_i32_80 : BitVec 32 := 0#32
  let v99 : BitVec 1 := Scalar.cmpi .ne v98 c0_i32_80
  v99

def k0_off11 (k0_t1 : Fin k0_t1_loop.trips) : Fin 2 → Nat :=
  let c5_i32_67 : BitVec 32 := 5#32
  let c0_i32_11 : BitVec 32 := 0#32
  let c1_i32_12 : BitVec 32 := 1#32
  let arg21 : BitVec 32 := Scf.iv c0_i32_11 c1_i32_12 k0_t1
  let v82 : BitVec 32 := Scalar.muli c5_i32_67 arg21
  let c3_i32_68 : BitVec 32 := 3#32
  let v83 : BitVec 32 := Scalar.addi v82 c3_i32_68
  let c3_i32_75 : BitVec 32 := 3#32
  let v91 : BitVec 32 := Scalar.addi v83 c3_i32_75
  let c0_i32_94 : BitVec 32 := 0#32
  ![v91.toNat, 0]
def k0_cond9 (k0_t1 : Fin k0_t1_loop.trips) : BitVec 1 :=
  let c5_i32_81 : BitVec 32 := 5#32
  let c0_i32_11 : BitVec 32 := 0#32
  let c1_i32_12 : BitVec 32 := 1#32
  let arg21 : BitVec 32 := Scf.iv c0_i32_11 c1_i32_12 k0_t1
  let v100 : BitVec 32 := Scalar.muli c5_i32_81 arg21
  let c4_i32 : BitVec 32 := 4#32
  let v101 : BitVec 32 := Scalar.addi v100 c4_i32
  let c3_i32_88 : BitVec 32 := 3#32
  let v109 : BitVec 32 := Scalar.addi v101 c3_i32_88
  let c50_i32_89 : BitVec 32 := 50#32
  let v110 : BitVec 1 := Scalar.cmpi .slt v109 c50_i32_89
  let c2_i32_90 : BitVec 32 := 2#32
  let v111 : BitVec 1 := Scalar.cmpi .sge v101 c2_i32_90
  let v112 : BitVec 1 := Scalar.andi v110 v111
  let v113 : BitVec 32 := Scalar.extui v112
  let c0_i32_91 : BitVec 32 := 0#32
  let v114 : BitVec 1 := Scalar.cmpi .ne v113 c0_i32_91
  v114

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c5_i32_81 : BitVec 32 := 5#32
  let c0_i32_11 : BitVec 32 := 0#32
  let c1_i32_12 : BitVec 32 := 1#32
  let arg21 : BitVec 32 := Scf.iv c0_i32_11 c1_i32_12 k0_t1
  let v100 : BitVec 32 := Scalar.muli c5_i32_81 arg21
  let c4_i32 : BitVec 32 := 4#32
  let v101 : BitVec 32 := Scalar.addi v100 c4_i32
  let c3_i32_88 : BitVec 32 := 3#32
  let v109 : BitVec 32 := Scalar.addi v101 c3_i32_88
  let c128_i32_94 : BitVec 32 := 128#32
  let v118 : BitVec 32 := Scalar.muli v109 c128_i32_94
  let v119 : BitVec 32 := Scalar.addi v2 v118
  let c0_i32_95 : BitVec 32 := 0#32
  ![v119.toNat, 0]
def k0_cond10 (k0_t1 : Fin k0_t1_loop.trips) : BitVec 1 :=
  let c5_i32_81 : BitVec 32 := 5#32
  let c0_i32_11 : BitVec 32 := 0#32
  let c1_i32_12 : BitVec 32 := 1#32
  let arg21 : BitVec 32 := Scf.iv c0_i32_11 c1_i32_12 k0_t1
  let v100 : BitVec 32 := Scalar.muli c5_i32_81 arg21
  let c4_i32 : BitVec 32 := 4#32
  let v101 : BitVec 32 := Scalar.addi v100 c4_i32
  let c3_i32_88 : BitVec 32 := 3#32
  let v109 : BitVec 32 := Scalar.addi v101 c3_i32_88
  let c50_i32_92 : BitVec 32 := 50#32
  let v115 : BitVec 1 := Scalar.cmpi .slt v109 c50_i32_92
  let v116 : BitVec 32 := Scalar.extui v115
  let c0_i32_93 : BitVec 32 := 0#32
  let v117 : BitVec 1 := Scalar.cmpi .ne v116 c0_i32_93
  v117

def k0_off13 (k0_t1 : Fin k0_t1_loop.trips) : Fin 2 → Nat :=
  let c5_i32_81 : BitVec 32 := 5#32
  let c0_i32_11 : BitVec 32 := 0#32
  let c1_i32_12 : BitVec 32 := 1#32
  let arg21 : BitVec 32 := Scf.iv c0_i32_11 c1_i32_12 k0_t1
  let v100 : BitVec 32 := Scalar.muli c5_i32_81 arg21
  let c4_i32 : BitVec 32 := 4#32
  let v101 : BitVec 32 := Scalar.addi v100 c4_i32
  let c3_i32_88 : BitVec 32 := 3#32
  let v109 : BitVec 32 := Scalar.addi v101 c3_i32_88
  let c0_i32_94 : BitVec 32 := 0#32
  ![v109.toNat, 0]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let v13 : BitVec 32 := Scalar.addi v2 c0_i32_14
  let c0_i32_15 : BitVec 32 := 0#32
  ![v13.toNat, 0]
abbrev grid1 : Pipeline.Grid := .none

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S4096x128 : Shape := ⟨2, ![4096, 128]⟩
abbrev S100000x128 : Shape := ⟨2, ![100000, 128]⟩
abbrev S128x128 : Shape := ⟨2, ![128, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x128, .f32⟩
  | .hbm, ⟨2, _⟩ => ⟨S100000x128, .f32⟩
  | .hbm, ⟨3, _⟩ => ⟨S128x128, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x128, .f32⟩
  | .hbm, ⟨23, _⟩ => ⟨S4096x50x128, .i1⟩
  | .hbm, ⟨24, _⟩ => ⟨S_, .f32⟩
  | .hbm, ⟨25, _⟩ => ⟨S4096x50x128, .f32⟩
  | .hbm, ⟨26, _⟩ => ⟨S4096x50x128, .f32⟩
  | .hbm, ⟨27, _⟩ => ⟨S128x128, .f32⟩
  | .hbm, ⟨28, _⟩ => ⟨S4096x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩

abbrev nD : Nat := 1
abbrev τ : Topo := Topo.v7x

variable {F : FTy → Type} [FloatOps F]
-- ==== Proof.Common.lean ====
/-
  What every module of the certificate shares: the printed program as the SparseCore launch theorem sees it (its
  configuration, its body table, its semaphores' facts), the resource algebra (the handshakes' rounds, the TensorCore
  pipeline's rounds, the counters of the transfers), the three HBM arrays the tiles work on, and the VALUE the
  SparseCore kernel leaves in its result: row `r` of the output is row `ids r` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The four handshake semaphores are distinct or unscoped as the launch needs, and no buffer of a SparseCore is shared
    by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipeline's rounds. -/
abbrev UB : Type := URounds (GSem nD τ sig) Unit
/-- Both, and the counters of the local transfers. -/
abbrev UU : Type := UH × (UB × Counters)

local notation "𝕄" => MT nD τ sig (HIx 1) (Elt F) ℕ UU ℕ

abbrev EH : Emb UH (MT nD τ sig (HIx 1) (Elt F) ℕ UU ℕ) := embL
/-- The embedding of the pipeline's rounds. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The table of embeddings, the token ids as the kernel is handed them, and the rows it writes. -/
abbrev tLoc (d : Dev nD) : Loc nD τ sig := (SparseCore.T d).loc main_arg2
abbrev iLoc (d : Dev nD) : Loc nD τ sig := (SparseCore.T d).loc main_v2
abbrev oLoc (d : Dev nD) : Loc nD τ sig := (SparseCore.T d).loc main_v3

/-- The memrefs the kernel's body is called on. -/
abbrev tM : Memref sig .scVector .hbm S100000x128 .f32 := Memref.whole main_arg2_scv
abbrev iM : Memref sig .scVector .hbm S32x50x128 .i32 := Memref.whole main_v2_scv
abbrev oM : Memref sig .scVector .hbm S204800x128 .f32 := Memref.whole main_v3_scv
abbrev xM : Memref sig .scVector .vmem S50x128 .i32 := Memref.whole cc0_scratch0
abbrev b0 : Memref sig .scVector .vmem S128x128 .f32 := Memref.whole cc0_scratch1
abbrev b1 : Memref sig .scVector .vmem S128x128 .f32 := Memref.whole cc0_scratch2
abbrev b2 : Memref sig .scVector .vmem S128x128 .f32 := Memref.whole cc0_scratch3
abbrev b3 : Memref sig .scVector .vmem S128x128 .f32 := Memref.whole cc0_scratch4
abbrev b4 : Memref sig .scVector .vmem S128x128 .f32 := Memref.whole cc0_scratch5

/-! ## A tile's place -/

abbrev cV (L : grid0.Coords) : Fin τ.nSC := (L 0).castLE hcore0
abbrev jV (L : grid0.Coords) : Fin τ.nSub := (L 1).castLE hsub0
/-- The thread of the tile at grid coordinates `L`. -/
abbrev tl (d : Dev nD) (L : grid0.Coords) : Thread nD τ := V d (cV L) (jV L)

theorem L0_lt (L : grid0.Coords) : (L 0).val < 2 := (L 0).isLt
theorem L1_lt (L : grid0.Coords) : (L 1).val < 16 := (L 1).isLt

/-- The tile's number among the 32: twice its subcore and its core. -/
def wid (L : grid0.Coords) : Fin 32 := ⟨2 * (L 1).val + (L 0).val, by have := L0_lt L; have := L1_lt L; omega⟩

theorem wid_val (L : grid0.Coords) : (wid L).val = 2 * (L 1).val + (L 0).val := rfl

/-! ## What the kernel computes -/

/-- The table row a word names: its value, for words below 100000. -/
def rowNo (w : BitVec 32) : Fin 100000 := ⟨min w.toNat 99999, by omega⟩

theorem rowNo_of_lt {w : BitVec 32} (h : w.toNat < 100000) : (rowNo w).val = w.toNat := by
  show min w.toNat 99999 = w.toNat; omega

/-- Chunk `n` (128 rows) of a tile whose list of row numbers is `fx`: row `x 0` is table row `fx (n, x 0)`. -/
def chunk {α : Type} (ft : S100000x128.Idx → α) (fx : S50x128.Idx → BitVec 32) (n : Fin 50) : S128x128.Idx → α :=
  fun x => ft (ix2 (rowNo (fx (ix2 n (x 0)))) (x 1))

/-- Tile `w`'s list of row numbers. -/
def idsOf (fi : S32x50x128.Idx → BitVec 32) (w : Fin 32) : S50x128.Idx → BitVec 32 := fun j => fi (ix3 w (j 0) (j 1))

/-- The kernel's result: row `128·(50·w + n) + x` is table row `fi (w, n, x)`. -/
def gathered {α : Type} (ft : S100000x128.Idx → α) (fi : S32x50x128.Idx → BitVec 32) : S204800x128.Idx → α := fun r =>
  ft (ix2 (rowNo (fi (ix3 ⟨(r 0).val / 6400, by have : (r 0).val < 204800 := (r 0).isLt; omega⟩
    ⟨(r 0).val % 6400 / 128, by omega⟩ ⟨(r 0).val % 128, by omega⟩))) (r 1))

end Cert.Proof.Embed

end
-- ==== Proof.Views.lean ====
/-
  The slices the SparseCore kernel's transfers name — a row of its list of row numbers, the whole table, a chunk of the
  output —, which elements of their arrays they are, and what the indirect gather of a row's entries delivers: the
  chunk of table rows the row names.
-/
module

public import proofs.«01_k».proof.Proof.Common

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The slices -/

/-- All of the table. -/
abbrev tAll : Memref sig .scVector .hbm S100000x128 .f32 :=
  (tM).slice (Rect.unit (s := S100000x128) ![0, 0] S100000x128.size inb_S100000x128_S100000x128_0_0) (fun _ => rfl)

/-- The row of the list of row numbers at offset `off`. -/
abbrev xRow (off : Fin 2 → ℕ) (h : ∀ a, off a + S1x128.size a ≤ S50x128.size a) : Memref sig .scVector .vmem S128 .i32 :=
  ((xM).slice (Rect.unit (s := S50x128) off S1x128.size h) (fun _ => rfl)).squeeze S128 squeezes_S1x128_S128

/-- The 128 output rows at offset `off`. -/
abbrev oSl (off : Fin 2 → ℕ) (h : ∀ a, off a + S128x128.size a ≤ S204800x128.size a) : Memref sig .scVector .hbm S128x128 .f32 :=
  (oM).slice (Rect.unit (s := S204800x128) off S128x128.size h) (fun _ => rfl)

/-- Where chunk `n` of tile `L` starts in the output. -/
def oOff (L : grid0.Coords) (n : Fin 50) : Fin 2 → ℕ := ![6400 * (wid L).val + 128 * n.val, 0]
theorem oOff_inb (L : grid0.Coords) (n : Fin 50) : ∀ a, oOff L n a + S128x128.size a ≤ S204800x128.size a := by
  intro a
  have := (wid L).isLt; have := n.isLt
  match a with
  | 0 => show 6400 * (wid L).val + 128 * n.val + 128 ≤ 204800; omega
  | 1 => show 0 + 128 ≤ 128; omega
/-- The elements of chunk `n` of tile `L`. -/
abbrev oSet (L : grid0.Coords) (n : Fin 50) : Finset S204800x128.Idx := (oSl (oOff L n) (oOff_inb L n)).view.set

/-- Where row `n` of the list starts. -/
def xOff (n : Fin 50) : Fin 2 → ℕ := ![n.val, 0]
theorem xOff_inb (n : Fin 50) : ∀ a, xOff n a + S1x128.size a ≤ S50x128.size a := by
  intro a
  have := n.isLt
  match a with
  | 0 => show n.val + 1 ≤ 50; omega
  | 1 => show 0 + 128 ≤ 128; omega
abbrev xSet (n : Fin 50) : Finset S50x128.Idx := (xRow (xOff n) (xOff_inb n)).view.set

/-! ## What they read -/

theorem tAll_read (f : S100000x128.Idx → Elt F .f32) : (tAll).view.read (Elt F) f = f := by
  funext j
  refine (View.read_apply _ _).trans ((cast_eq _ _).trans (congrArg f ?_))
  funext a; apply Fin.ext
  show (Rect.unit (s := S100000x128) ![0, 0] S100000x128.size inb_S100000x128_S100000x128_0_0).off a
    + 1 * (j a).val = (j a).val
  match a with
  | 0 => show 0 + 1 * (j 0).val = (j 0).val; omega
  | 1 => show 0 + 1 * (j 1).val = (j 1).val; omega

theorem tAll_set : (tAll).view.set = Finset.univ := by
  refine Finset.eq_univ_iff_forall.mpr fun j => Finset.mem_map.mpr ⟨j, Finset.mem_univ j, ?_⟩
  funext a; apply Fin.ext
  match a with
  | 0 => show 0 + 1 * (j 0).val = (j 0).val; omega
  | 1 => show 0 + 1 * (j 1).val = (j 1).val; omega

theorem xRow_emb (n : Fin 50) (y : S128.Idx) : (xRow (xOff n) (xOff_inb n)).view.emb y = ix2 n (y 0) := by
  have e : Shape.reshapeEquiv squeezes_S1x128_S128.numel_eq y = ix2 (n0 := 1) (n1 := 128) 0 (y 0) :=
    Shape.reshapeEquiv_eq_of_rowMajor _ (by
      rw [Shape.rowMajor_val_two, Shape.rowMajor_val_one]; show 0 * 128 + (y 0).val = (y 0).val; omega)
  show ((Rect.unit (s := S50x128) (xOff n) S1x128.size (xOff_inb n)).emb
    (Shape.reshapeEquiv squeezes_S1x128_S128.numel_eq y)) = _
  rw [e]
  funext a; apply Fin.ext
  match a with
  | 0 => show n.val + 1 * 0 = n.val; omega
  | 1 => show 0 + 1 * (y 0).val = (y 0).val; omega

theorem xRow_read (f : S50x128.Idx → Elt F .i32) (n : Fin 50) (y : S128.Idx) :
    (xRow (xOff n) (xOff_inb n)).view.read (Elt F) f y = f (ix2 n (y 0)) :=
  (View.read_apply _ _).trans ((cast_eq _ _).trans (congrArg f (xRow_emb n y)))

theorem oSl_emb (L : grid0.Coords) (n : Fin 50) (x : S128x128.Idx) :
    (oSl (oOff L n) (oOff_inb L n)).view.emb x
      = ix2 ⟨6400 * (wid L).val + 128 * n.val + (x 0).val, by
          have := (wid L).isLt; have := n.isLt; have : (x 0).val < 128 := (x 0).isLt; omega⟩ (x 1) := by
  funext a; apply Fin.ext
  match a with
  | 0 => show 6400 * (wid L).val + 128 * n.val + 1 * (x 0).val = 6400 * (wid L).val + 128 * n.val + (x 0).val; omega
  | 1 => show 0 + 1 * (x 1).val = (x 1).val; omega

/-- The kernel's result on chunk `n` of tile `L` is that tile's chunk `n`. -/
theorem gathered_emb {α : Type} (ft : S100000x128.Idx → α) (fi : S32x50x128.Idx → BitVec 32) (L : grid0.Coords) (n : Fin 50)
    (x : S128x128.Idx) :
    gathered ft fi ((oSl (oOff L n) (oOff_inb L n)).view.emb x) = chunk ft (idsOf fi (wid L)) n x := by
  rw [oSl_emb]
  have hx : (x 0).val < 128 := (x 0).isLt
  have hn := n.isLt
  unfold gathered chunk idsOf
  have e : ∀ (r : Fin 204800), r.val = 6400 * (wid L).val + 128 * n.val + (x 0).val →
      ix3 (n0 := 32) (n1 := 50) (n2 := 128) ⟨r.val / 6400, by have := r.isLt; omega⟩ ⟨r.val % 6400 / 128, by omega⟩ ⟨r.val % 128, by omega⟩
        = ix3 (wid L) n (x 0) := by
    intro r hr
    funext a; apply Fin.ext
    match a with
    | 0 => show r.val / 6400 = (wid L).val; omega
    | 1 => show r.val % 6400 / 128 = n.val; omega
    | 2 => show r.val % 128 = (x 0).val; omega
  exact congrArg (fun k => ft (ix2 (rowNo (fi k)) (x 1))) (e _ rfl)

/-- What the write of chunk `n` leaves on its elements. -/
theorem oSl_write (L : grid0.Coords) (n : Fin 50) (f : S204800x128.Idx → Elt F .f32) (ft : S100000x128.Idx → Elt F .f32)
    (fi : S32x50x128.Idx → BitVec 32) :
    ∀ i ∈ oSet L n, (oSl (oOff L n) (oOff_inb L n)).view.write (Elt F) f (chunk ft (idsOf fi (wid L)) n) Finset.univ i
      = gathered ft fi i := by
  intro i hi
  obtain ⟨x, -, rfl⟩ := Finset.mem_map.mp hi
  rw [gathered_emb, View.write_emb_of_mem _ _ (Finset.mem_univ x)]
  rfl

/-- The gather of the entries of row `n` of the list delivers chunk `n`. -/
theorem gatherPayload_chunk (ft : S100000x128.Idx → Elt F .f32) (fx : S50x128.Idx → Elt F .i32) (n : Fin 50)
    (hn : S128.numel = S128x128.size gathers_S100000x128_S128x128.axis')
    (hin : ∀ x, ((xRow (xOff n) (xOff_inb n)).view.read (Elt F) fx x).toNat < S100000x128.size gathers_S100000x128_S128x128.axis) :
    SparseCore.gatherPayload gathers_S100000x128_S128x128 ((tAll).view.read (Elt F) ft)
      (SparseCore.rows ((xRow (xOff n) (xOff_inb n)).view.read (Elt F) fx) hn hin) = chunk ft fx n := by
  rw [tAll_read]
  funext x
  show ft (gathers_S100000x128_S128x128.idx _ x) = ft (ix2 (rowNo (fx (ix2 n (x 0)))) (x 1))
  congr 1
  have hy : (S128.rowMajor.symm ((x 0).cast hn.symm)) 0 = x 0 := by
    apply Fin.ext
    rw [← Shape.rowMajor_val_one, Equiv.apply_symm_apply]; rfl
  funext a; apply Fin.ext
  match a with
  | 0 =>
    refine (congrArg Fin.val (Shape.Gathers.idx_axis gathers_S100000x128_S128x128 _ x)).trans ?_
    have h1 := hin (S128.rowMajor.symm ((x 0).cast hn.symm))
    show (BitVec.toNat ((xRow (xOff n) (xOff_inb n)).view.read (Elt F) fx (S128.rowMajor.symm ((x 0).cast hn.symm)))) = _
    rw [xRow_read, hy] at h1 ⊢
    exact (rowNo_of_lt h1).symm
  | 1 =>
    exact Shape.Gathers.idx_of_ne gathers_S100000x128_S128x128 _ x (b := 1) (by decide)

end Cert.Proof.Embed

end
-- ==== Proof.Slots.lean ====
/-
  The ring of five row buffers of one tile. A slot of the ring is a row buffer with the two semaphores of its
  transfers — the gather that fills it, the write that empties it — and its read shares of the table and of the list of
  row numbers. Chunk `n` of the tile's 50 goes through slot `n % 5`. This module states what a slot is between two
  operations (idle, being filled with a chunk, being emptied of a chunk), and for each operation of the kernel's loop what
  it takes a slot from and to.
-/
module

public import proofs.«01_k».proof.Proof.Views

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- A slot of the ring: the row buffer, the gather's semaphore, the write's, and the slot's number. -/
structure Slot where
  b : Memref sig .scVector .vmem S128x128 .f32
  g : DmaSem sig
  w : DmaSem sig
  k : Fin 5

abbrev s0 : Slot := ⟨b0, cc0_scratch6.sem, cc0_scratch11.sem, 0⟩
abbrev s1 : Slot := ⟨b1, cc0_scratch7.sem, cc0_scratch12.sem, 1⟩
abbrev s2 : Slot := ⟨b2, cc0_scratch8.sem, cc0_scratch13.sem, 2⟩
abbrev s3 : Slot := ⟨b3, cc0_scratch9.sem, cc0_scratch14.sem, 3⟩
abbrev s4 : Slot := ⟨b4, cc0_scratch10.sem, cc0_scratch15.sem, 4⟩

/-- The credit of a transfer of a whole row buffer is the sum of its rows' credits. -/
def Slot.Rows (σ : Slot) : Prop :=
  ∑ j, (σ.b.slice (S128x128.rowRect gathers_S100000x128_S128x128.axis' j) (S128x128.stride_rowRect _ j)).view.dmaCredit = σ.b.view.dmaCredit

/-! ## The slot's pieces -/

section Pieces

variable (d : Dev nD) (L : grid0.Coords) (ft : Buf (Elt F) (tLoc d)) (fi : Buf (Elt F) (iLoc d)) (q : PosShare TreeShare) (σ : Slot)

/-- The row buffer holding `X`. -/
def bufAt (X : S128x128.Idx → Elt F .f32) : sProp 𝕄 :=
  iprop(∃ fd, σ.b.view.loc (tl d L) ↦[σ.b.view.set]{fullShare} σ.b.view.write (Elt F) fd X Finset.univ)
/-- The row buffer at any contents. -/
def bufAny : sProp 𝕄 := iprop(∃ fd, σ.b.view.loc (tl d L) ↦[σ.b.view.set]{fullShare} fd)

/-- The slot's read share of the table. -/
def tSh : sProp 𝕄 := (tAll).view.loc (tl d L) ↦[(tAll).view.set]{pieceOf q 5 (by decide) σ.k} ft
/-- The slot's share of the list. -/
abbrev xq (σ : Slot) : PosShare TreeShare := pieceOf fullShare 5 (by decide) σ.k
/-- The tile's list of row numbers. -/
abbrev ids : Buf (Elt F) ((xM).view.loc (tl d L)) := idsOf fi (wid L)
/-- The slot's read share of the list of row numbers. -/
def xSh : sProp 𝕄 := (xM).view.loc (tl d L) ↦[Finset.univ]{xq σ} ids d L fi

/-- Chunk `n` of the output at some contents, and at the rows of the table the ids name. -/
def oPre (n : Fin 50) : sProp 𝕄 := iprop(∃ f, oLoc d ↦[oSet L n]{fullShare} f)
def oPost (n : Fin 50) : sProp 𝕄 := oLoc d ↦[oSet L n]{fullShare} gathered ft fi

/-- Chunk `n`'s rows. -/
abbrev chk (n : Fin 50) : S128x128.Idx → Elt F .f32 := chunk ft (idsOf fi (wid L)) n

/-- The credit of a write of a chunk. -/
abbrev wCr (L : grid0.Coords) : ℕ := (oSl (oOff L 0) (oOff_inb L 0)).view.dmaCredit

/-! ## The slot's states -/

/-- Nothing under way. -/
def Idle : sProp 𝕄 := iprop(bufAny d L σ ∗ semVal (tl d L, SemLoc.dma σ.g) 0 ∗ semVal (tl d L, SemLoc.dma σ.w) 0
  ∗ tSh d L ft q σ ∗ xSh d L fi σ)

/-- The chunk `n` landed, nothing under way. -/
def Full (n : Fin 50) : sProp 𝕄 := iprop(bufAt d L σ (chk d L ft fi n) ∗ semVal (tl d L, SemLoc.dma σ.g) 0 ∗ semVal (tl d L, SemLoc.dma σ.w) 0
  ∗ tSh d L ft q σ ∗ xSh d L fi σ)

/-- The gather of chunk `n` under way. -/
def Filling (n : Fin 50) : sProp 𝕄 :=
  iprop(Transfers.Flight countersEmb (tl d L) (.dma σ.g) (default : HIx 1) σ.b.view.dmaCredit
      iprop(bufAt d L σ (chk d L ft fi n) ∗ tSh d L ft q σ ∗ ((xM).view.loc (tl d L) ↦[xSet n]{xq σ} ids d L fi))
    ∗ ((xM).view.loc (tl d L) ↦[Finset.univ \ xSet n]{xq σ} ids d L fi) ∗ semVal (tl d L, SemLoc.dma σ.w) 0)

/-- The write of chunk `n` under way. -/
def Emptying (n : Fin 50) : sProp 𝕄 :=
  iprop(Transfers.Flight countersEmb (tl d L) (.dma σ.w) (default : HIx 1) (wCr L) iprop(oPost d L ft fi n ∗ bufAny d L σ)
    ∗ semVal (tl d L, SemLoc.dma σ.g) 0 ∗ tSh d L ft q σ ∗ xSh d L fi σ)

/-- The `n`-th chunk, for `n` below 50. -/
abbrev ch (n : ℕ) : Fin 50 := Fin.ofNat 50 n

/-- The slot of chunk `n` when its gather is to be waited for: being filled (past the last chunk, still being emptied of the one five before). -/
def GS (n : ℕ) : sProp 𝕄 := if n < 50 then Filling d L ft fi q σ (ch n) else Emptying d L ft fi q σ (ch (n - 5))
/-- The slot of chunk `n` when it is to be freed: being emptied of the chunk five before (before the fifth chunk, idle). -/
def PS (n : ℕ) : sProp 𝕄 := if n < 5 then Idle d L ft fi q σ else Emptying d L ft fi q σ (ch (n - 5))
/-- The slot of chunk `n` once free. -/
def MS (n : ℕ) : sProp 𝕄 := if n < 50 then Idle d L ft fi q σ else Emptying d L ft fi q σ (ch (n - 5))

/-- The thread owes `O` and has waited on nothing but its own transfers since `W`. -/
def OW (O : CellTallies nD τ sig (HIx 1)) (W : Waits sig (HIx 1)) : sProp 𝕄 :=
  iprop(∃ W', ⌜∀ p ∈ W', p ∈ W ∨ p.2 = none⌝ ∗ owes (tl d L) O W')

end Pieces

/-! ## The four operations -/

section Ops

variable (d : Dev nD) (L : grid0.Coords) (ft : Buf (Elt F) (tLoc d)) (fi : Buf (Elt F) (iLoc d)) (q : PosShare TreeShare) (σ : Slot)

/-- Every token id names a row of the table. -/
def InVocab (fi : S32x50x128.Idx → BitVec 32) : Prop := ∀ j, (fi j).toNat < 100000

omit [FloatOps F] in
theorem bufAny_of_bufAt (X : S128x128.Idx → Elt F .f32) : (bufAt d L σ X : sProp 𝕄) ⊢ bufAny d L σ := by
  unfold bufAt bufAny; iintro ⟨%fd, H⟩; iexists _; iexact H

/-- A program bound to its own end is itself. -/
theorem wp_end {α : Type} {p : Prog (TpuEff nD τ sig (Elt F) Λ₀ (tl d L).2) α} {Φ : α → sProp 𝕄} : wp frame (wpE (defs₀ (F := F)) 𝒱₀ (tl d L) none) Set.univ (p >>= pure) Φ ⊢ wp frame (wpE (defs₀ (F := F)) 𝒱₀ (tl d L) none) Set.univ p Φ :=
  Entails.of_eq (congrArg (fun p => wp frame (wpE (defs₀ (F := F)) 𝒱₀ (tl d L) none) Set.univ p Φ) (Prog.bind_pure p))

/-- Starting the gather of chunk `n` into an idle slot. -/
theorem gather_start (hrow : σ.Rows) (hin : InVocab fi) (n : Fin 50) {off : Fin 2 → ℕ} {hoff : ∀ a, off a + S1x128.size a ≤ S50x128.size a}
    (e : off = xOff n) {Φ : PUnit → sProp 𝕄} :
    Idle d L ft fi q σ ⊢ iprop((Filling d L ft fi q σ n -∗ Φ ⟨⟩) -∗ wp frame (wpE (defs₀ (F := F)) 𝒱₀ (tl d L) none) Set.univ
      (SparseCore.enqueueIndirectGather rfl (tAll) σ.b gathers_S100000x128_S128x128 (xRow off hoff) rfl σ.g (View.wordExact_bits rfl) rfl (Or.inl rfl)) Φ) := by
  subst e
  unfold Idle Filling bufAny tSh xSh
  iintro ⟨⟨%fd, Hb⟩, Hg, Hw, Ht, Hx⟩ Hk
  ihave Hxs := (pointsTo_split_subset (q := xq σ) (f := ids d L fi) (S := Finset.univ) (Finset.subset_univ (xSet n))).1 $$ Hx
  icases Hxs with ⟨Hxs, Hxr⟩
  have hin' : ∀ x, ((xRow (xOff n) (xOff_inb n)).view.read (Elt F) (ids d L fi) x).toNat < S100000x128.size gathers_S100000x128_S128x128.axis := by
    intro x; rw [xRow_read]; exact hin _
  iapply (wp_end (F := F) d L)
  iapply (SparseCore.wp_indirectGatherLocal countersEmb 𝒱₀ (tl d L) none (hg := gathers_S100000x128_S128x128) (default : HIx 1)
      σ.b.view.dmaCredit hrow (by decide) hin') $$ [Hb Hg Ht Hxs]
  · isplitl [Ht]; · iexact Ht
    isplitl [Hb]; · iexact Hb
    isplitl [Hxs]; · iexact Hxs
    iexact Hg
  iintro Hfl
  rw [wp_pure]; imodintro
  iapply Hk
  isplitl [Hfl]
  · iapply (Transfers.Flight_mono countersEmb (tl d L) ?_) $$ Hfl
    unfold bufAt
    have hp := gatherPayload_chunk ft (ids d L fi) n rfl hin'
    iintro ⟨Hb, Ht, Hx⟩
    isplitl [Hb]
    · iexists fd
      iapply (Entails.of_eq (congrArg (fun X => (σ.b.view.loc (tl d L) ↦[σ.b.view.set]{fullShare} σ.b.view.write (Elt F) fd X Finset.univ : sProp 𝕄)) hp))
      iexact Hb
    isplitl [Ht] <;> iassumption
  isplitl [Hxr] <;> iassumption

/-- Waiting for it. -/
theorem gather_wait (n : Fin 50) {sp : Space} {s' : Shape} {e' : EltTy} {src : Memref sig .scVector sp s' e'} {hsrc : src.view.WordExact}
    {hdst : σ.b.view.WordExact} {O : CellTallies nD τ sig (HIx 1)} {W : Waits sig (HIx 1)} {Φ : PUnit → sProp 𝕄} :
    iprop(Filling d L ft fi q σ n ∗ OW d L O W ∗ Transfers.MayWaits (tl d L) (default : HIx 1) O)
      ⊢ iprop((Full d L ft fi q σ n ∗ OW d L O W -∗ Φ ⟨⟩) -∗ wp frame (wpE (defs₀ (F := F)) 𝒱₀ (tl d L) none) Set.univ (SparseCore.waitIndirectGather σ.g src σ.b hsrc hdst) Φ) := by
  unfold Filling Full OW tSh xSh SparseCore.waitIndirectGather
  iintro ⟨⟨Hfl, Hxr, Hw⟩, ⟨%W', %hW', HO⟩, Hmw⟩ Hk
  iapply (Transfers.wp_waitLocalO countersEmb 𝒱₀ (tl d L) none (default : HIx 1) (rfl : σ.b.view.dmaCredit = _)) $$ [Hfl HO Hmw]
  · isplitl [Hfl]; · iexact Hfl
    isplitl [HO]; · iexact HO
    iapply (Transfers.MayWaits.elim (SemLoc.dma σ.g)) $$ Hmw
  iintro ⟨⟨Hb, Ht, Hxs⟩, Hg, HO⟩
  rw [wp_ret]; imodintro
  iapply Hk
  isplitr [HO]
  · isplitl [Hb]; · iexact Hb
    isplitl [Hg]; · iexact Hg
    isplitl [Hw]; · iexact Hw
    isplitl [Ht]; · iexact Ht
    iapply (pointsTo_split_subset (q := xq σ) (f := ids d L fi) (S := Finset.univ) (Finset.subset_univ (xSet n))).2
    isplitl [Hxs] <;> iassumption
  · iexists _; isplitr
    swap; · iexact HO
    ipureintro; intro p hp
    rcases Finset.mem_insert.mp hp with hp | hp
    · exact .inr (hp ▸ rfl)
    · exact hW' p hp

/-- The output rows at `off` as the tile's own transfer's destination. -/
abbrev oDst (off : Fin 2 → ℕ) (hoff : ∀ a, off a + S128x128.size a ≤ S204800x128.size a) :
    DmaTarget nD τ sig (.scVector (cV L) (jV L)) .hbm S128x128 .f32 := .here (oSl off hoff)

/-- Starting the write of the landed chunk `n` to the output. -/
theorem write_start (n : Fin 50) {off : Fin 2 → ℕ} {hoff : ∀ a, off a + S128x128.size a ≤ S204800x128.size a} (e : off = oOff L n)
    {hsrc : σ.b.view.WordExact} {hdst : (oSl off hoff).view.WordExact} {hsem : (oDst L off hoff).Typed .vmem (SemLoc.dma σ.w)}
    {Φ : PUnit → sProp 𝕄} :
    iprop(Full d L ft fi q σ n ∗ oPre d L n)
      ⊢ iprop((Emptying d L ft fi q σ n -∗ Φ ⟨⟩) -∗ wp frame (wpE (defs₀ (F := F)) 𝒱₀ (tl d L) none) Set.univ (Prog.lift (.enqueueDma σ.b (oDst L off hoff) (.dma σ.w) hsrc hdst hsem)) Φ) := by
  subst e
  unfold Full Emptying oPre oPost bufAt bufAny
  iintro ⟨⟨⟨%fd, Hb⟩, Hg, Hw, Ht, Hx⟩, %fo, Ho⟩ Hk
  iapply (Transfers.wp_dmaLocal countersEmb 𝒱₀ (tl d L) none (default : HIx 1) (wCr L) rfl (View.dmaCredit_pos _ (by decide)) (Finset.Subset.refl _)) $$ [Hb Ho Hw]
  · isplitl [Hb]; · iexact Hb
    isplitl [Ho]; · iexact Ho
    iexact Hw
  iintro Hfl
  rw [wp_ret]; imodintro
  iapply Hk
  isplitl [Hfl]
  · iapply (Transfers.Flight_mono countersEmb (tl d L) ?_) $$ Hfl
    iintro ⟨Ho, Hb⟩
    isplitl [Ho]
    · iapply (Entails.of_eq (pointsTo_congr (oSl_write L n fo ft fi)))
      rw [View.read_write_univ]
      iexact Ho
    · iexists _; iexact Hb
  isplitl [Hg]; · iexact Hg
  isplitl [Ht] <;> iassumption

/-- Waiting for it, at any chunk's place in the output (the wait names only the amount). -/
theorem write_wait (n : Fin 50) {off : Fin 2 → ℕ} {hoff : ∀ a, off a + S128x128.size a ≤ S204800x128.size a}
    {hsrc : σ.b.view.WordExact} {hdst : (oSl off hoff).view.WordExact} {O : CellTallies nD τ sig (HIx 1)} {W : Waits sig (HIx 1)} {Φ : PUnit → sProp 𝕄} :
    iprop(Emptying d L ft fi q σ n ∗ OW d L O W ∗ Transfers.MayWaits (tl d L) (default : HIx 1) O)
      ⊢ iprop((Idle d L ft fi q σ ∗ oPost d L ft fi n ∗ OW d L O W -∗ Φ ⟨⟩) -∗ wp frame (wpE (defs₀ (F := F)) 𝒱₀ (tl d L) none) Set.univ (Prog.lift (.waitDma2 σ.w σ.b (oSl off hoff) hsrc hdst)) Φ) := by
  unfold Emptying Idle OW
  iintro ⟨⟨Hfl, Hg, Ht, Hx⟩, ⟨%W', %hW', HO⟩, Hmw⟩ Hk
  iapply (Transfers.wp_waitLocalO countersEmb 𝒱₀ (tl d L) none (default : HIx 1) (rfl : (oSl off hoff).view.dmaCredit = wCr L)) $$ [Hfl HO Hmw]
  · isplitl [Hfl]; · iexact Hfl
    isplitl [HO]; · iexact HO
    iapply (Transfers.MayWaits.elim (SemLoc.dma σ.w)) $$ Hmw
  iintro ⟨⟨Ho, Hb⟩, Hw, HO⟩
  rw [wp_ret]; imodintro
  iapply Hk
  isplitl [Hb Hg Hw Ht Hx]
  · isplitl [Hb]; · iexact Hb
    isplitl [Hg]; · iexact Hg
    isplitl [Hw]; · iexact Hw
    isplitl [Ht] <;> iassumption
  isplitl [Ho]; · iexact Ho
  iexists _; isplitr
  swap; · iexact HO
  ipureintro; intro p hp
  rcases Finset.mem_insert.mp hp with hp | hp
  · exact .inr (hp ▸ rfl)
  · exact hW' p hp

end Ops

end Cert.Proof.Embed

end
-- ==== Proof.Ring.lean ====
/-
  The two conditional operations of a unit of the kernel's loop — free the slot of the chunk three ahead, start its
  gather —, the families of output chunks written and not yet written, and one trip of the loop at a symbolic trip
  number: five units, each taking the five slots one chunk further.
-/
module

public import proofs.«01_k».proof.Proof.Slots

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## Families over the chunks -/

/-- The chunks from `n` on. -/
def fromC (n : ℕ) : Finset (Fin 50) := Finset.univ.filter fun c => n ≤ c.val
/-- The chunks below `n`. -/
def belowC (n : ℕ) : Finset (Fin 50) := Finset.univ.filter fun c => c.val < n

theorem ch_val {n : ℕ} (h : n < 50) : (ch n).val = n := Nat.mod_eq_of_lt h

theorem fromC_succ {n : ℕ} (h : n < 50) : fromC n = insert (ch n) (fromC (n + 1)) := by
  ext c
  simp only [fromC, Finset.mem_filter, Finset.mem_univ, true_and, Finset.mem_insert, Fin.ext_iff, ch_val h]
  omega
theorem notMem_fromC {n : ℕ} (h : n < 50) : ch n ∉ fromC (n + 1) := by
  simp only [fromC, Finset.mem_filter, Finset.mem_univ, true_and, ch_val h]; omega
theorem belowC_succ {n : ℕ} (h : n < 50) : belowC (n + 1) = insert (ch n) (belowC n) := by
  ext c
  simp only [belowC, Finset.mem_filter, Finset.mem_univ, true_and, Finset.mem_insert, Fin.ext_iff, ch_val h]
  omega
theorem notMem_belowC {n : ℕ} (h : n < 50) : ch n ∉ belowC n := by
  simp only [belowC, Finset.mem_filter, Finset.mem_univ, true_and, ch_val h]; omega
theorem fromC_zero : fromC 0 = Finset.univ := Finset.filter_true_of_mem fun _ _ => Nat.zero_le _
theorem belowC_zero : belowC 0 = ∅ := Finset.filter_false_of_mem fun _ _ => Nat.not_lt_zero _
theorem belowC_all : belowC 50 = Finset.univ := Finset.filter_true_of_mem fun c _ => c.isLt

section Ops

variable (d : Dev nD) (L : grid0.Coords) (ft : Buf (Elt F) (tLoc d)) (fi : Buf (Elt F) (iLoc d)) (q : PosShare TreeShare) (σ : Slot)

/-- The output's chunks from `n` on, not yet written. -/
def ToDo (n : ℕ) : sProp 𝕄 := bigSep (fromC n) fun c => oPre d L c
/-- The output's chunks below `n`, written. -/
def DoneTo (n : ℕ) : sProp 𝕄 := bigSep (belowC n) fun c => oPost d L ft fi c
/-- The chunks known to be written when the slot of chunk `n` is to be freed: all more than five before, but the last five. -/
def Done (n : ℕ) : sProp 𝕄 := DoneTo d L ft fi (min (n - 5) 45)

omit [FloatOps F] in
theorem toDo_succ {n : ℕ} (h : n < 50) : (ToDo d L n : sProp 𝕄) = iprop(oPre d L (ch n) ∗ ToDo d L (n + 1)) := by
  unfold ToDo; rw [fromC_succ h, SparseCore.bigSep_insert' (notMem_fromC h)]
theorem doneTo_succ {n : ℕ} (h : n < 50) : (DoneTo d L ft fi (n + 1) : sProp 𝕄) = iprop(oPost d L ft fi (ch n) ∗ DoneTo d L ft fi n) := by
  unfold DoneTo; rw [belowC_succ h, SparseCore.bigSep_insert' (notMem_belowC h)]
theorem done_take {n : ℕ} (h5 : 5 ≤ n) (h : n < 50) : iprop(oPost d L ft fi (ch (n - 5)) ∗ Done d L ft fi n) ⊢ (Done d L ft fi (n + 1) : sProp 𝕄) := by
  unfold Done
  rw [show min (n + 1 - 5) 45 = min (n - 5) 45 + 1 by omega, doneTo_succ d L ft fi (by omega), show min (n - 5) 45 = n - 5 by omega]
theorem done_skip {n : ℕ} (h : n < 5 ∨ 50 ≤ n) : (Done d L ft fi n : sProp 𝕄) = Done d L ft fi (n + 1) := by
  unfold Done; rw [show min (n + 1 - 5) 45 = min (n - 5) 45 by omega]

/-! ## The conditional operations -/

omit [FloatOps F] in
/-- A conditional operation before the rest of the program, as the program is printed: the rest in both branches. -/
theorem cond_join {E : Type → Type} {α : Type} {c : Prop} [Decidable c] (A : c → Prog E PUnit) (k : Prog E α) :
    (if h : c then A h >>= fun _ => k else k) = (if h : c then A h else pure ⟨⟩) >>= fun _ => k := by
  by_cases h : c
  · rw [dif_pos h, dif_pos h]
  · rw [dif_neg h, dif_neg h]; rfl

/-- As the program prints them: where the condition holds, the wait for the slot's write; -/
abbrev freeOp (c : BitVec 1) (off : Fin 2 → ℕ) (hoff : c = 1#1 → ∀ a, off a + S128x128.size a ≤ S204800x128.size a) (hsrc : σ.b.view.WordExact)
    (hdst : ∀ h, (oSl off (hoff h)).view.WordExact) : Prog (TpuEff nD τ sig (Elt F) Λ₀ (tl d L).2) PUnit :=
  if h : c = 1#1 then
    Prog.lift (.waitDma2 σ.w σ.b (oSl off (hoff h)) hsrc (hdst h))
  else pure ⟨⟩

/-- where the condition holds, the start of the slot's gather. -/
abbrev refillOp (c : BitVec 1) (off : Fin 2 → ℕ) (hoff : c = 1#1 → ∀ a, off a + S1x128.size a ≤ S50x128.size a) :
    Prog (TpuEff nD τ sig (Elt F) Λ₀ (tl d L).2) PUnit :=
  if h : c = 1#1 then
    SparseCore.enqueueIndirectGather rfl (tAll) σ.b gathers_S100000x128_S128x128 (xRow off (hoff h)) rfl σ.g (View.wordExact_bits rfl) rfl (Or.inl rfl)
  else pure ⟨⟩

/-- Freeing the slot of chunk `n`: where a chunk was written from it and there is a chunk `n`, the write is waited for. -/
theorem free_slot {c : BitVec 1} (n : ℕ) (hc : c = 1#1 ↔ 5 ≤ n ∧ n < 50) {off : Fin 2 → ℕ}
    {hoff : c = 1#1 → ∀ a, off a + S128x128.size a ≤ S204800x128.size a} {hsrc : σ.b.view.WordExact}
    {hdst : ∀ h, (oSl off (hoff h)).view.WordExact} {O : CellTallies nD τ sig (HIx 1)} {W : Waits sig (HIx 1)} {Φ : PUnit → sProp 𝕄} :
    iprop(PS d L ft fi q σ n ∗ Done d L ft fi n ∗ OW d L O W ∗ Transfers.MayWaits (tl d L) (default : HIx 1) O)
      ⊢ iprop((MS d L ft fi q σ n ∗ Done d L ft fi (n + 1) ∗ OW d L O W -∗ Φ ⟨⟩) -∗ wp frame (wpE (defs₀ (F := F)) 𝒱₀ (tl d L) none) Set.univ (freeOp d L σ c off hoff hsrc hdst) Φ) := by
  unfold PS MS freeOp
  by_cases h : c = 1#1
  · obtain ⟨h5, h50⟩ := hc.mp h
    rw [dif_pos h, if_neg (by omega), if_pos h50]
    iintro ⟨HS, HD, HO, Hmw⟩ Hk
    iapply (write_wait d L ft fi q σ (ch (n - 5))) $$ [HS HO Hmw]
    · isplitl [HS]; · iexact HS
      isplitl [HO] <;> iassumption
    iintro ⟨HS, Ho, HO⟩
    iapply Hk
    isplitl [HS]; · iexact HS
    isplitl [Ho HD]
    · iapply (done_take d L ft fi h5 h50); isplitl [Ho] <;> iassumption
    iexact HO
  · have h' : n < 5 ∨ 50 ≤ n := by have := mt hc.mpr h; omega
    rw [dif_neg h, wp_pure, done_skip d L ft fi h']
    iintro ⟨HS, HD, HO, -⟩ Hk
    imodintro
    iapply Hk
    isplitl [HS]
    · iapply (Entails.of_eq ?_) $$ HS
      rcases h' with h' | h'
      · rw [if_pos h', if_pos (by omega)]
      · rw [if_neg (by omega), if_neg (by omega)]
    isplitl [HD] <;> iassumption

/-- Starting the gather of chunk `n` in its slot, where there is a chunk `n`. -/
theorem refill_slot {c : BitVec 1} (n : ℕ) (hc : c = 1#1 ↔ n < 50) (hrow : σ.Rows) (hin : InVocab fi) {off : Fin 2 → ℕ} (e : off = ![n, 0])
    {hoff : c = 1#1 → ∀ a, off a + S1x128.size a ≤ S50x128.size a} {Φ : PUnit → sProp 𝕄} :
    MS d L ft fi q σ n ⊢ iprop((GS d L ft fi q σ n -∗ Φ ⟨⟩) -∗ wp frame (wpE (defs₀ (F := F)) 𝒱₀ (tl d L) none) Set.univ (refillOp d L σ c off hoff) Φ) := by
  unfold MS GS refillOp
  by_cases h : c = 1#1
  · have h50 := hc.mp h
    have e' : off = xOff (ch n) := by rw [e]; unfold xOff; rw [ch_val h50]
    rw [dif_pos h, if_pos h50, if_pos h50]
    iintro HS Hk
    iapply (gather_start d L ft fi q σ hrow hin (ch n) e') $$ HS
    iintro HS
    iapply Hk; iexact HS
  · have h' := mt hc.mpr h
    rw [dif_neg h, wp_pure, if_neg h', if_neg h']
    iintro HS Hk
    imodintro
    iapply Hk; iexact HS

/-- One unit of the loop: chunk `j`, landed or landing in slot `σ`, is waited for and its write started; the slot `ρ` of
    chunk `j + 3` is freed, and that chunk's gather started in it. -/
theorem unit (ρ : Slot) (j : ℕ) (hj : j < 50) (hrow : ρ.Rows) (hin : InVocab fi) {c c' : BitVec 1} (hc : c = 1#1 ↔ 5 ≤ j + 3 ∧ j + 3 < 50)
    (hc' : c' = 1#1 ↔ j + 3 < 50) {sp : Space} {s' : Shape} {e' : EltTy} {src : Memref sig .scVector sp s' e'} {hsrc : src.view.WordExact}
    {hdst : σ.b.view.WordExact}
    {off : Fin 2 → ℕ} {hoff : ∀ a, off a + S128x128.size a ≤ S204800x128.size a} (e : off = oOff L (ch j))
    {hdst' : (oSl off hoff).view.WordExact} {hsem : (oDst L off hoff).Typed .vmem (SemLoc.dma σ.w)}
    {off₂ : Fin 2 → ℕ} {hoff₂ : c = 1#1 → ∀ a, off₂ a + S128x128.size a ≤ S204800x128.size a} {hsrc₂ : ρ.b.view.WordExact}
    {hdst₂ : ∀ h, (oSl off₂ (hoff₂ h)).view.WordExact}
    {off₃ : Fin 2 → ℕ} (e₃ : off₃ = ![j + 3, 0]) {hoff₃ : c' = 1#1 → ∀ a, off₃ a + S1x128.size a ≤ S50x128.size a}
    {O : CellTallies nD τ sig (HIx 1)} {W : Waits sig (HIx 1)} {Φ : PUnit → sProp 𝕄} :
    iprop(Transfers.MayWaits (tl d L) (default : HIx 1) O ∗ GS d L ft fi q σ j ∗ PS d L ft fi q ρ (j + 3) ∗ ToDo d L j
        ∗ Done d L ft fi (j + 3) ∗ OW d L O W)
      ⊢ iprop((PS d L ft fi q σ (j + 5) ∗ GS d L ft fi q ρ (j + 3) ∗ ToDo d L (j + 1) ∗ Done d L ft fi (j + 4) ∗ OW d L O W -∗ Φ ⟨⟩) -∗
        wp frame (wpE (defs₀ (F := F)) 𝒱₀ (tl d L) none) Set.univ (SparseCore.waitIndirectGather σ.g src σ.b hsrc hdst) fun _ =>
        wp frame (wpE (defs₀ (F := F)) 𝒱₀ (tl d L) none) Set.univ (Prog.lift (.enqueueDma σ.b (oDst L off hoff) (.dma σ.w) hdst hdst' hsem)) fun _ =>
        wp frame (wpE (defs₀ (F := F)) 𝒱₀ (tl d L) none) Set.univ (freeOp d L ρ c off₂ hoff₂ hsrc₂ hdst₂) fun _ => wp frame (wpE (defs₀ (F := F)) 𝒱₀ (tl d L) none) Set.univ (refillOp d L ρ c' off₃ hoff₃) Φ) := by
  rw [toDo_succ d L hj, show GS d L ft fi q σ j = Filling d L ft fi q σ (ch j) from if_pos hj,
    show PS d L ft fi q σ (j + 5) = Emptying d L ft fi q σ (ch j) from (if_neg (by omega)).trans (by rw [Nat.add_sub_cancel])]
  iintro ⟨#Hmw, HS, HR, ⟨Ho, HT⟩, HD, HO⟩ Hk
  iapply (gather_wait d L ft fi q σ (ch j)) $$ [HS HO]
  · isplitl [HS]; · iexact HS
    isplitl [HO]; · iexact HO
    iexact Hmw
  iintro ⟨HS, HO⟩
  iapply (write_start d L ft fi q σ (ch j) e) $$ [HS Ho]
  · isplitl [HS] <;> iassumption
  iintro HS
  iapply (free_slot d L ft fi q ρ (j + 3) hc) $$ [HR HD HO]
  · isplitl [HR]; · iexact HR
    isplitl [HD]; · iexact HD
    isplitl [HO]; · iexact HO
    iexact Hmw
  iintro ⟨HR, HD, HO⟩
  iapply (refill_slot d L ft fi q ρ (j + 3) hc' hrow hin e₃) $$ HR
  iintro HR
  iapply Hk
  isplitl [HS]; · iexact HS
  isplitl [HR]; · iexact HR
  isplitl [HT]; · iexact HT
  isplitl [HD] <;> iassumption

end Ops

/-! ## The conditions and the offsets, as the program computes them -/

theorem trips_eq : k0_t1_loop.trips = 10 := by decide

theorem cond1 (t : Fin k0_t1_loop.trips) : k0_cond1 t = 1#1 ↔ 5 ≤ 5 * t.val + 3 ∧ 5 * t.val + 3 < 50 := by revert t; decide
theorem cond2 (t : Fin k0_t1_loop.trips) : k0_cond2 t = 1#1 ↔ 5 * t.val + 3 < 50 := by revert t; decide
theorem cond3 (t : Fin k0_t1_loop.trips) : k0_cond3 t = 1#1 ↔ 5 ≤ 5 * t.val + 4 ∧ 5 * t.val + 4 < 50 := by revert t; decide
theorem cond4 (t : Fin k0_t1_loop.trips) : k0_cond4 t = 1#1 ↔ 5 * t.val + 4 < 50 := by revert t; decide
theorem cond5 (t : Fin k0_t1_loop.trips) : k0_cond5 t = 1#1 ↔ 5 ≤ 5 * t.val + 5 ∧ 5 * t.val + 5 < 50 := by revert t; decide
theorem cond6 (t : Fin k0_t1_loop.trips) : k0_cond6 t = 1#1 ↔ 5 * t.val + 5 < 50 := by revert t; decide
theorem cond7 (t : Fin k0_t1_loop.trips) : k0_cond7 t = 1#1 ↔ 5 ≤ 5 * t.val + 6 ∧ 5 * t.val + 6 < 50 := by revert t; decide
theorem cond8 (t : Fin k0_t1_loop.trips) : k0_cond8 t = 1#1 ↔ 5 * t.val + 6 < 50 := by revert t; decide
theorem cond9 (t : Fin k0_t1_loop.trips) : k0_cond9 t = 1#1 ↔ 5 ≤ 5 * t.val + 7 ∧ 5 * t.val + 7 < 50 := by revert t; decide
theorem cond10 (t : Fin k0_t1_loop.trips) : k0_cond10 t = 1#1 ↔ 5 * t.val + 7 < 50 := by revert t; decide

/-- Where the write of unit `r` of trip `t` goes. -/
theorem oOff_trip (L : grid0.Coords) (t : Fin k0_t1_loop.trips) (r : Fin 5) :
    k0_off3 L t (BitVec.ofNat 32 r.val) = oOff L (ch (5 * t.val + r.val)) := by
  have ht : t.val < 10 := trips_eq ▸ t.isLt
  have hr := r.isLt
  rw [k0_off3_eq]; unfold oOff
  rw [ch_val (by omega), wid_val]
  funext a
  match a with
  | 0 => show _ + _ = _; simp; omega
  | 1 => rfl

theorem rows0 : s0.Rows := by unfold Slot.Rows; decide
theorem rows1 : s1.Rows := by unfold Slot.Rows; decide
theorem rows2 : s2.Rows := by unfold Slot.Rows; decide
theorem rows3 : s3.Rows := by unfold Slot.Rows; decide
theorem rows4 : s4.Rows := by unfold Slot.Rows; decide

end Cert.Proof.Embed

end
-- ==== Proof.Trip.lean ====
/-
  One trip of the tile's loop at a symbolic trip number: five units, each taking the ring one chunk further.
-/
module

public import proofs.«01_k».proof.Proof.Ring

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## Where the five units' writes go -/

theorem oOff0 (L : grid0.Coords) (t : Fin k0_t1_loop.trips) : k0_off3 L t 0#32 = oOff L (ch (5 * t.val)) := oOff_trip L t 0
theorem oOff1 (L : grid0.Coords) (t : Fin k0_t1_loop.trips) : k0_off3 L t 1#32 = oOff L (ch (5 * t.val + 1)) := oOff_trip L t 1
theorem oOff2 (L : grid0.Coords) (t : Fin k0_t1_loop.trips) : k0_off3 L t 2#32 = oOff L (ch (5 * t.val + 2)) := oOff_trip L t 2
theorem oOff3 (L : grid0.Coords) (t : Fin k0_t1_loop.trips) : k0_off3 L t 3#32 = oOff L (ch (5 * t.val + 3)) := oOff_trip L t 3
theorem oOff4 (L : grid0.Coords) (t : Fin k0_t1_loop.trips) : k0_off3 L t 4#32 = oOff L (ch (5 * t.val + 4)) := oOff_trip L t 4

/-! ## One trip -/

section Trip

variable (d : Dev nD) (L : grid0.Coords) (ft : Buf (Elt F) (tLoc d)) (fi : Buf (Elt F) (iLoc d)) (q : PosShare TreeShare)
  (O : CellTallies nD τ sig (HIx 1)) (W : Waits sig (HIx 1))

/-- Before trip `t`: the five slots, the chunks to write and those written. -/
def TripInv (t : ℕ) : sProp 𝕄 :=
  iprop(Transfers.MayWaits (tl d L) (default : HIx 1) O
    ∗ GS d L ft fi q s0 (5 * t) ∗ GS d L ft fi q s1 (5 * t + 1) ∗ GS d L ft fi q s2 (5 * t + 2)
    ∗ PS d L ft fi q s3 (5 * t + 3) ∗ PS d L ft fi q s4 (5 * t + 4)
    ∗ ToDo d L (5 * t) ∗ Done d L ft fi (5 * t + 3) ∗ OW d L O W)

/-- The printed body of the loop at the tile's memrefs. -/
abbrev tripBody (v2 : BitVec 32) :=
  k0_t1_body (F := F) L tM (Memref.isWhole_whole _) iM (Memref.isWhole_whole _) oM (Memref.isWhole_whole _)
    xM (Memref.isWhole_whole _) b0 (Memref.isWhole_whole _) b1 (Memref.isWhole_whole _) b2 (Memref.isWhole_whole _)
    b3 (Memref.isWhole_whole _) b4 (Memref.isWhole_whole _)
    cc0_scratch6 cc0_scratch7 cc0_scratch8 cc0_scratch9 cc0_scratch10 cc0_scratch11 cc0_scratch12 cc0_scratch13 cc0_scratch14 cc0_scratch15
    cc0_scoped0 v2

set_option maxHeartbeats 1000000 in
theorem trip (hin : InVocab fi) (v2 : BitVec 32) (t : Fin k0_t1_loop.trips) (acc : Unit) :
    TripInv d L ft fi q O W t.val ⊢ wp frame (wpE (defs₀ (F := F)) 𝒱₀ (tl d L) none) Set.univ (tripBody (F := F) L v2 t acc) fun _ => TripInv d L ft fi q O W (t.val + 1) := by
  have ht : t.val < 10 := trips_eq ▸ t.isLt
  unfold tripBody k0_t1_body
  simp only [k0_part1_eq_skeleton, k0_part2_eq_skeleton, k0_part3_eq_skeleton]
  unfold k0_part1_skel k0_part2_skel k0_part3_skel
  simp only [cond_join]
  simp only [wp_bind, wp_pure, fupd_wp_eq]
  unfold TripInv
  rw [show 5 * (t.val + 1) = 5 * t.val + 5 by omega]
  iintro ⟨#Hmw, H0, H1, H2, H3, H4, HT, HD, HO⟩
  iapply (unit d L ft fi q s0 s3 (5 * t.val) (by omega) rows3 hin (cond1 t) (cond2 t) (oOff0 L t) (k0_off5_eq t)) $$ [H0 H3 HT HD HO]
  · isplitr; · iexact Hmw
    isplitl [H0]; · iexact H0
    isplitl [H3]; · iexact H3
    isplitl [HT]; · iexact HT
    isplitl [HD] <;> iassumption
  iintro ⟨H0, H3, HT, HD, HO⟩
  iapply (unit d L ft fi q s1 s4 (5 * t.val + 1) (by omega) rows4 hin (cond3 t) (cond4 t) (oOff1 L t) (k0_off7_eq t)) $$ [H1 H4 HT HD HO]
  · isplitr; · iexact Hmw
    isplitl [H1]; · iexact H1
    isplitl [H4]; · iexact H4
    isplitl [HT]; · iexact HT
    isplitl [HD] <;> iassumption
  iintro ⟨H1, H4, HT, HD, HO⟩
  iapply (unit d L ft fi q s2 s0 (5 * t.val + 2) (by omega) rows0 hin (cond5 t) (cond6 t) (oOff2 L t) (k0_off9_eq t)) $$ [H2 H0 HT HD HO]
  · isplitr; · iexact Hmw
    isplitl [H2]; · iexact H2
    isplitl [H0]; · iexact H0
    isplitl [HT]; · iexact HT
    isplitl [HD] <;> iassumption
  iintro ⟨H2, H0, HT, HD, HO⟩
  iapply (unit d L ft fi q s3 s1 (5 * t.val + 3) (by omega) rows1 hin (cond7 t) (cond8 t) (oOff3 L t) (k0_off11_eq t)) $$ [H3 H1 HT HD HO]
  · isplitr; · iexact Hmw
    isplitl [H3]; · iexact H3
    isplitl [H1]; · iexact H1
    isplitl [HT]; · iexact HT
    isplitl [HD] <;> iassumption
  iintro ⟨H3, H1, HT, HD, HO⟩
  iapply (unit d L ft fi q s4 s2 (5 * t.val + 4) (by omega) rows2 hin (cond9 t) (cond10 t) (oOff4 L t) (k0_off13_eq t)) $$ [H4 H2 HT HD HO]
  · isplitr; · iexact Hmw
    isplitl [H4]; · iexact H4
    isplitl [H2]; · iexact H2
    isplitl [HT]; · iexact HT
    isplitl [HD] <;> iassumption
  iintro ⟨H4, H2, HT, HD, HO⟩
  imodintro
  isplitr; · iexact Hmw
  isplitl [H0]; · iexact H0
  isplitl [H1]; · iexact H1
  isplitl [H2]; · iexact H2
  isplitl [H3]; · iexact H3
  isplitl [H4]; · iexact H4
  isplitl [HT]; · iexact HT
  isplitl [HD] <;> iassumption

end Trip

end Cert.Proof.Embed

end
-- ==== Proof.Fetch.lean ====
/-
  The start of a tile's task: what it owns — its eleven transfer semaphores and six scratch buffers —, and the fetch of
  its list of 6400 row numbers from row `wid` of the ids.
-/
module

public import proofs.«01_k».proof.Proof.Trip

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## What a tile owns -/

section Own

variable (d : Dev nD) (L : grid0.Coords)

/-- The semaphores of the tile's transfers: by slot the gather's and the write's, and the list's. -/
def tileSems : Finset (SemLoc sig) :=
  {SemLoc.dma s0.g, SemLoc.dma s0.w, SemLoc.dma s1.g, SemLoc.dma s1.w, SemLoc.dma s2.g, SemLoc.dma s2.w, SemLoc.dma s3.g, SemLoc.dma s3.w,
    SemLoc.dma s4.g, SemLoc.dma s4.w, SemLoc.dma cc0_scoped0.sem}

/-- The tile's scratch: the list of row numbers and the five row buffers. -/
def tileBufs : Finset (Ref sig .scVector) :=
  {cc0_scratch0, cc0_scratch1, cc0_scratch2, cc0_scratch3, cc0_scratch4, cc0_scratch5}

/-- A tile's semaphore of each name. -/
def semAt : SemLoc sig ↪ GSem nD τ sig := ⟨fun s => (tl d L, s), fun _ _ h => (Prod.mk.inj h).2⟩
/-- A tile's buffer of each name. -/
def bufOf : Ref sig .scVector ↪ DevRef τ sig := ⟨(Proc.scVector (cV L) (jV L)).devRef, Proc.devRef_injective _⟩

/-- What else the tile owns. -/
def semRest : sProp 𝕄 := bigSep (ownCells (tl d L) \ tileSems.map (semAt d L)) fun g => semVal g 0
def bufRest : sProp 𝕄 := bigSep (ownRefs (τ := τ) (.scVector (cV L) (jV L)) \ tileBufs.map (bufOf L)) fun b =>
  iprop(∃ f, ((d, b) : Loc nD τ sig) ↦{fullShare} f)

/-- Its semaphores: the eleven and the rest. -/
theorem ownSems_eq : (ownSems0 (tl d L) : sProp 𝕄)
    = iprop((semVal (tl d L, SemLoc.dma s0.g) 0 ∗ semVal (tl d L, SemLoc.dma s0.w) 0
      ∗ semVal (tl d L, SemLoc.dma s1.g) 0 ∗ semVal (tl d L, SemLoc.dma s1.w) 0
      ∗ semVal (tl d L, SemLoc.dma s2.g) 0 ∗ semVal (tl d L, SemLoc.dma s2.w) 0
      ∗ semVal (tl d L, SemLoc.dma s3.g) 0 ∗ semVal (tl d L, SemLoc.dma s3.w) 0
      ∗ semVal (tl d L, SemLoc.dma s4.g) 0 ∗ semVal (tl d L, SemLoc.dma s4.w) 0
      ∗ semVal (tl d L, SemLoc.dma cc0_scoped0.sem) 0) ∗ semRest d L) := by
  unfold SparseCore.Cfg.ownSems0 semRest
  have hsub : tileSems.map (semAt d L) ⊆ ownCells (tl d L) := by
    intro g hg
    obtain ⟨s, hs, rfl⟩ := Finset.mem_map.mp hg
    refine mem_ownCells.mpr ⟨rfl, ?_⟩
    show s.isScoped .scVector = true
    clear hg; revert s; decide
  refine (bigSep_sdiff_split hsub).trans ?_
  rw [Idealize.SL.BI.bigSep_map]
  congr 1
  unfold tileSems
  iterate 10 rw [SparseCore.bigSep_insert' (by decide)]
  rw [bigSep_singleton]
  rfl

/-- Its buffers: the six, at some contents, and the rest. -/
theorem ownBufs_eq : (ownBufs (tl d L) : sProp 𝕄)
    = iprop(((∃ f, (tl d L).loc cc0_scratch0 ↦{fullShare} f)
      ∗ (∃ f, (tl d L).loc cc0_scratch1 ↦{fullShare} f) ∗ (∃ f, (tl d L).loc cc0_scratch2 ↦{fullShare} f)
      ∗ (∃ f, (tl d L).loc cc0_scratch3 ↦{fullShare} f) ∗ (∃ f, (tl d L).loc cc0_scratch4 ↦{fullShare} f)
      ∗ (∃ f, (tl d L).loc cc0_scratch5 ↦{fullShare} f)) ∗ bufRest d L) := by
  unfold SparseCore.Cfg.ownBufs bufRest
  have hsub : tileBufs.map (bufOf L) ⊆ ownRefs (τ := τ) (.scVector (cV L) (jV L)) := by
    intro b hb
    obtain ⟨r, hr, rfl⟩ := Finset.mem_map.mp hb
    refine SparseCore.Cfg.mem_ownRefs_of_owner ?_
    unfold tileBufs at hr
    simp only [Finset.mem_insert, Finset.mem_singleton] at hr
    rcases hr with rfl | rfl | rfl | rfl | rfl | rfl <;> rfl
  refine (bigSep_sdiff_split hsub).trans ?_
  rw [Idealize.SL.BI.bigSep_map]
  congr 1
  unfold tileBufs
  iterate 5 rw [SparseCore.bigSep_insert' (by decide)]
  rw [bigSep_singleton]
  rfl

end Own

/-! ## The fetch of the row numbers -/

/-- The tile's row of the ids, as its fetch names it. -/
abbrev iRow (L : grid0.Coords) : Memref sig .scVector .hbm S50x128 .i32 :=
  ((iM).slice (Rect.unit (s := S32x50x128) (k0_off1 L) S1x50x128.size (k0_off1_inb L)) (fun _ => rfl)).squeeze S50x128 squeezes_S1x50x128_S50x128
abbrev iSet (L : grid0.Coords) : Finset S32x50x128.Idx := (iRow L).view.set

theorem iRow_emb (L : grid0.Coords) (y : S50x128.Idx) : (iRow L).view.emb y = ix3 (wid L) (y 0) (y 1) := by
  have e : Shape.reshapeEquiv squeezes_S1x50x128_S50x128.numel_eq y = ix3 (n0 := 1) (n1 := 50) (n2 := 128) 0 (y 0) (y 1) :=
    Shape.reshapeEquiv_eq_of_rowMajor _ (by
      rw [Shape.rowMajor_val_three, Shape.rowMajor_val_two]
      show (0 * 50 + (y 0).val) * 128 + (y 1).val = (y 0).val * 128 + (y 1).val; omega)
  show ((Rect.unit (s := S32x50x128) (k0_off1 L) S1x50x128.size (k0_off1_inb L)).emb
    (Shape.reshapeEquiv squeezes_S1x50x128_S50x128.numel_eq y)) = _
  rw [e]
  funext a; apply Fin.ext
  have ho := k0_off1_eq L
  match a with
  | 0 => show k0_off1 L 0 + 1 * 0 = (wid L).val; rw [ho, wid_val]; rfl
  | 1 => show k0_off1 L 1 + 1 * (y 0).val = (y 0).val; rw [ho]; show 0 + 1 * (y 0).val = (y 0).val; omega
  | 2 => show k0_off1 L 2 + 1 * (y 1).val = (y 1).val; rw [ho]; show 0 + 1 * (y 1).val = (y 1).val; omega

theorem iRow_read (L : grid0.Coords) (fi : S32x50x128.Idx → Elt F .i32) :
    (iRow L).view.read (Elt F) fi = idsOf fi (wid L) := by
  funext y
  exact (View.read_apply _ _).trans ((cast_eq _ _).trans (congrArg fi (iRow_emb L y)))

theorem xM_set : (xM).view.set = Finset.univ := View.set_whole _

variable [FloatOps F]

section Ops

variable (d : Dev nD) (L : grid0.Coords) (fi : Buf (Elt F) (iLoc d))

/-- The tile's list as a transfer's destination. -/
abbrev xDst : DmaTarget nD τ sig (.scVector (cV L) (jV L)) .vmem S50x128 .i32 := .here xM

/-- The fetch: the list of row numbers is the tile's row of the ids. -/
theorem fetch {hsrc : (iRow L).view.WordExact} {hdst : (xM).view.WordExact} {hsem : (xDst L).Typed .hbm (SemLoc.dma cc0_scoped0.sem)}
    {hsrc' : (iRow L).view.WordExact} {hdst' : (xM).view.WordExact}
    {O : CellTallies nD τ sig (HIx 1)} {W : Waits sig (HIx 1)} {Φ : PUnit → sProp 𝕄} :
    iprop((iLoc d ↦[iSet L]{fullShare} fi) ∗ (∃ f, (tl d L).loc cc0_scratch0 ↦{fullShare} f) ∗ semVal (tl d L, SemLoc.dma cc0_scoped0.sem) 0
        ∗ OW d L O W ∗ Transfers.MayWaits (tl d L) (default : HIx 1) O)
      ⊢ iprop(((iLoc d ↦[iSet L]{fullShare} fi) ∗ ((xM).view.loc (tl d L) ↦[Finset.univ]{fullShare} ids d L fi)
          ∗ semVal (tl d L, SemLoc.dma cc0_scoped0.sem) 0 ∗ OW d L O W -∗ Φ ⟨⟩) -∗
        wp frame (wpE (defs₀ (F := F)) 𝒱₀ (tl d L) none) Set.univ (Prog.lift (.enqueueDma (iRow L) (xDst L) (.dma cc0_scoped0.sem) hsrc hdst hsem)) fun _ =>
          wp frame (wpE (defs₀ (F := F)) 𝒱₀ (tl d L) none) Set.univ (Prog.lift (.waitDma2 cc0_scoped0.sem (iRow L) xM hsrc' hdst')) Φ) := by
  unfold OW
  iintro ⟨Hi, ⟨%f, Hx⟩, Hs, ⟨%W', %hW', HO⟩, Hmw⟩ Hk
  ihave Hx' := (Entails.of_eq (show ((tl d L).loc cc0_scratch0 ↦{fullShare} f : sProp 𝕄)
      = (xM).view.loc (tl d L) ↦[(xM).view.set]{fullShare} f by rw [xM_set])) $$ Hx
  iapply (Transfers.wp_dmaLocal countersEmb 𝒱₀ (tl d L) none (default : HIx 1) (xM).view.dmaCredit rfl (View.dmaCredit_pos _ (by decide)) (Finset.Subset.refl _)) $$ [Hi Hx' Hs]
  · isplitl [Hi]; · iexact Hi
    isplitl [Hx']; · iexact Hx'
    iexact Hs
  iintro Hfl
  rw [wp_ret]; imodintro
  iapply (Transfers.wp_waitLocalO countersEmb 𝒱₀ (tl d L) none (default : HIx 1) (rfl : (xM).view.dmaCredit = _)) $$ [Hfl HO Hmw]
  · isplitl [Hfl]; · iexact Hfl
    isplitl [HO]; · iexact HO
    iapply (Transfers.MayWaits.elim (SemLoc.dma cc0_scoped0.sem)) $$ Hmw
  iintro ⟨⟨Hx, Hi⟩, Hs, HO⟩
  rw [wp_ret]; imodintro
  iapply Hk
  isplitl [Hi]; · iexact Hi
  isplitl [Hx]
  · iapply (Entails.of_eq ?_) $$ Hx
    rw [xM_set, View.write_whole_univ, iRow_read]
  isplitl [Hs]; · iexact Hs
  iexists _; isplitr
  swap; · iexact HO
  ipureintro; intro p hp
  rcases Finset.mem_insert.mp hp with hp | hp
  · exact .inr (hp ▸ rfl)
  · exact hW' p hp

end Ops

end Cert.Proof.Embed

end
-- ==== Proof.Tile.lean ====
/-
  The whole task of one tile: from its row of the ids, a read share of the table, its fifty chunks of the output at any
  contents, and its own scratch and semaphores, to the same with the fifty chunks holding the table rows the ids name.
-/
module

public import proofs.«01_k».proof.Proof.Fetch

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The slots' shares and buffers -/

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide]
  iterate 4 rw [SparseCore.bigSep_insert' (by decide)]
  rw [bigSep_singleton]

section Deal

variable (d : Dev nD) (L : grid0.Coords) (ft : Buf (Elt F) (tLoc d)) (fi : Buf (Elt F) (iLoc d)) (q : PosShare TreeShare)

/-- The tile's share of the table is the five slots'. -/
theorem tSh_all : (tLoc d ↦{q} ft : sProp 𝕄) = iprop(tSh d L ft q s0 ∗ tSh d L ft q s1 ∗ tSh d L ft q s2 ∗ tSh d L ft q s3 ∗ tSh d L ft q s4) := by
  refine (pointsTo_piecesOf (o := 5) Finset.univ ft (by decide) q).trans ?_
  rw [bigSep_five]; unfold tSh; rw [tAll_set]

/-- The tile's list of row numbers is the five slots'. -/
theorem xSh_all : ((xM).view.loc (tl d L) ↦[Finset.univ]{fullShare} ids d L fi : sProp 𝕄)
    = iprop(xSh d L fi s0 ∗ xSh d L fi s1 ∗ xSh d L fi s2 ∗ xSh d L fi s3 ∗ xSh d L fi s4) := by
  refine (pointsTo_piecesOf (o := 5) Finset.univ (ids d L fi) (by decide) fullShare).trans ?_
  rw [bigSep_five]; rfl

theorem buf0 : (bufAny d L s0 : sProp 𝕄) = iprop(∃ f, (tl d L).loc cc0_scratch1 ↦{fullShare} f) := by
  unfold bufAny; rw [show (s0.b.view.set) = Finset.univ from View.set_whole _]
theorem buf1 : (bufAny d L s1 : sProp 𝕄) = iprop(∃ f, (tl d L).loc cc0_scratch2 ↦{fullShare} f) := by
  unfold bufAny; rw [show (s1.b.view.set) = Finset.univ from View.set_whole _]
theorem buf2 : (bufAny d L s2 : sProp 𝕄) = iprop(∃ f, (tl d L).loc cc0_scratch3 ↦{fullShare} f) := by
  unfold bufAny; rw [show (s2.b.view.set) = Finset.univ from View.set_whole _]
theorem buf3 : (bufAny d L s3 : sProp 𝕄) = iprop(∃ f, (tl d L).loc cc0_scratch4 ↦{fullShare} f) := by
  unfold bufAny; rw [show (s3.b.view.set) = Finset.univ from View.set_whole _]
theorem buf4 : (bufAny d L s4 : sProp 𝕄) = iprop(∃ f, (tl d L).loc cc0_scratch5 ↦{fullShare} f) := by
  unfold bufAny; rw [show (s4.b.view.set) = Finset.univ from View.set_whole _]

/-- What the slots are made of: the row buffers, the shares, and their semaphores. -/
def Parts : sProp 𝕄 :=
  iprop(((∃ f, (tl d L).loc cc0_scratch1 ↦{fullShare} f) ∗ (∃ f, (tl d L).loc cc0_scratch2 ↦{fullShare} f)
      ∗ (∃ f, (tl d L).loc cc0_scratch3 ↦{fullShare} f) ∗ (∃ f, (tl d L).loc cc0_scratch4 ↦{fullShare} f)
      ∗ (∃ f, (tl d L).loc cc0_scratch5 ↦{fullShare} f))
    ∗ (semVal (tl d L, SemLoc.dma s0.g) 0 ∗ semVal (tl d L, SemLoc.dma s0.w) 0
      ∗ semVal (tl d L, SemLoc.dma s1.g) 0 ∗ semVal (tl d L, SemLoc.dma s1.w) 0
      ∗ semVal (tl d L, SemLoc.dma s2.g) 0 ∗ semVal (tl d L, SemLoc.dma s2.w) 0
      ∗ semVal (tl d L, SemLoc.dma s3.g) 0 ∗ semVal (tl d L, SemLoc.dma s3.w) 0
      ∗ semVal (tl d L, SemLoc.dma s4.g) 0 ∗ semVal (tl d L, SemLoc.dma s4.w) 0)
    ∗ (tLoc d ↦{q} ft) ∗ ((xM).view.loc (tl d L) ↦[Finset.univ]{fullShare} ids d L fi))

/-- The five slots, idle. -/
def AllIdle : sProp 𝕄 :=
  iprop(Idle d L ft fi q s0 ∗ Idle d L ft fi q s1 ∗ Idle d L ft fi q s2 ∗ Idle d L ft fi q s3 ∗ Idle d L ft fi q s4)

theorem parts_idle : (Parts d L ft fi q : sProp 𝕄) ⊢ AllIdle d L ft fi q := by
  unfold Parts AllIdle Idle
  rw [tSh_all d L, xSh_all, buf0, buf1, buf2, buf3, buf4]
  iintro ⟨⟨B0, B1, B2, B3, B4⟩, ⟨G0, W0, G1, W1, G2, W2, G3, W3, G4, W4⟩, ⟨T0, T1, T2, T3, T4⟩, ⟨X0, X1, X2, X3, X4⟩⟩
  isplitl [B0 G0 W0 T0 X0]; · isplitl [B0]; (· iexact B0); isplitl [G0]; (· iexact G0); isplitl [W0]; (· iexact W0); isplitl [T0] <;> iassumption
  isplitl [B1 G1 W1 T1 X1]; · isplitl [B1]; (· iexact B1); isplitl [G1]; (· iexact G1); isplitl [W1]; (· iexact W1); isplitl [T1] <;> iassumption
  isplitl [B2 G2 W2 T2 X2]; · isplitl [B2]; (· iexact B2); isplitl [G2]; (· iexact G2); isplitl [W2]; (· iexact W2); isplitl [T2] <;> iassumption
  isplitl [B3 G3 W3 T3 X3]; · isplitl [B3]; (· iexact B3); isplitl [G3]; (· iexact G3); isplitl [W3]; (· iexact W3); isplitl [T3] <;> iassumption
  isplitl [B4]; (· iexact B4); isplitl [G4]; (· iexact G4); isplitl [W4]; (· iexact W4); isplitl [T4] <;> iassumption

theorem idle_parts : (AllIdle d L ft fi q : sProp 𝕄) ⊢ Parts d L ft fi q := by
  unfold Parts AllIdle Idle
  rw [tSh_all d L, xSh_all, buf0, buf1, buf2, buf3, buf4]
  iintro ⟨⟨B0, G0, W0, T0, X0⟩, ⟨B1, G1, W1, T1, X1⟩, ⟨B2, G2, W2, T2, X2⟩, ⟨B3, G3, W3, T3, X3⟩, ⟨B4, G4, W4, T4, X4⟩⟩
  isplitl [B0 B1 B2 B3 B4]
  · isplitl [B0]; · iexact B0
    isplitl [B1]; · iexact B1
    isplitl [B2]; · iexact B2
    isplitl [B3] <;> iassumption
  isplitl [G0 W0 G1 W1 G2 W2 G3 W3 G4 W4]
  · isplitl [G0]; · iexact G0
    isplitl [W0]; · iexact W0
    isplitl [G1]; · iexact G1
    isplitl [W1]; · iexact W1
    isplitl [G2]; · iexact G2
    isplitl [W2]; · iexact W2
    isplitl [G3]; · iexact G3
    isplitl [W3]; · iexact W3
    isplitl [G4] <;> iassumption
  isplitl [T0 T1 T2 T3 T4]
  · isplitl [T0]; · iexact T0
    isplitl [T1]; · iexact T1
    isplitl [T2]; · iexact T2
    isplitl [T3] <;> iassumption
  isplitl [X0]; · iexact X0
  isplitl [X1]; · iexact X1
  isplitl [X2]; · iexact X2
  isplitl [X3] <;> iassumption

end Deal

variable [FloatOps F]

/-! ## The task -/

section Body

variable (d : Dev nD) (L : grid0.Coords) (ft : Buf (Elt F) (tLoc d)) (fi : Buf (Elt F) (iLoc d)) (q : PosShare TreeShare)

/-- The printed kernel at the tile's memrefs. -/
abbrev tileProg : Prog (TpuEff nD τ sig (Elt F) Λ₀ (tl d L).2) PUnit :=
  cc0_gather (F := F) L tM (Memref.isWhole_whole _) iM (Memref.isWhole_whole _) oM (Memref.isWhole_whole _)
    xM (Memref.isWhole_whole _) b0 (Memref.isWhole_whole _) b1 (Memref.isWhole_whole _) b2 (Memref.isWhole_whole _)
    b3 (Memref.isWhole_whole _) b4 (Memref.isWhole_whole _)
    cc0_scratch6 cc0_scratch7 cc0_scratch8 cc0_scratch9 cc0_scratch10 cc0_scratch11 cc0_scratch12 cc0_scratch13 cc0_scratch14 cc0_scratch15
    cc0_scoped0

/-- The tile's row of the ids, its share of the table, and its chunks of the output: before, and after. -/
def tileIn : sProp 𝕄 := iprop((iLoc d ↦[iSet L]{fullShare} fi) ∗ (tLoc d ↦{q} ft) ∗ bigSep Finset.univ fun n => oPre d L n)
def tileOut : sProp 𝕄 := iprop((iLoc d ↦[iSet L]{fullShare} fi) ∗ (tLoc d ↦{q} ft) ∗ bigSep Finset.univ fun n => oPost d L ft fi n)

/-- The last five chunks make the fifty. -/
theorem done_all : iprop((oPost d L ft fi (ch 45) ∗ oPost d L ft fi (ch 46) ∗ oPost d L ft fi (ch 47) ∗ oPost d L ft fi (ch 48)
    ∗ oPost d L ft fi (ch 49)) ∗ Done d L ft fi 53) ⊢ (bigSep Finset.univ fun n => oPost d L ft fi n : sProp 𝕄) := by
  rw [← belowC_all]
  show _ ⊢ DoneTo d L ft fi 50
  rw [show Done d L ft fi 53 = DoneTo d L ft fi 45 from rfl, doneTo_succ d L ft fi (n := 49) (by decide),
    doneTo_succ d L ft fi (n := 48) (by decide), doneTo_succ d L ft fi (n := 47) (by decide), doneTo_succ d L ft fi (n := 46) (by decide),
    doneTo_succ d L ft fi (n := 45) (by decide)]
  iintro ⟨⟨H0, H1, H2, H3, H4⟩, HD⟩
  isplitl [H4]; · iexact H4
  isplitl [H3]; · iexact H3
  isplitl [H2]; · iexact H2
  isplitl [H1]; · iexact H1
  isplitl [H0] <;> iassumption

/-- Before the first trip: the first three chunks' gathers under way, two slots idle, nothing written. -/
theorem inv_first (O : CellTallies nD τ sig (HIx 1)) (W : Waits sig (HIx 1)) :
    (TripInv d L ft fi q O W 0 : sProp 𝕄) = iprop(Transfers.MayWaits (tl d L) (default : HIx 1) O
      ∗ Filling d L ft fi q s0 (ch 0) ∗ Filling d L ft fi q s1 (ch 1) ∗ Filling d L ft fi q s2 (ch 2)
      ∗ Idle d L ft fi q s3 ∗ Idle d L ft fi q s4
      ∗ (bigSep Finset.univ fun n => oPre d L n) ∗ emp ∗ OW d L O W) := by
  unfold TripInv
  rw [show GS d L ft fi q s0 (5 * 0) = Filling d L ft fi q s0 (ch 0) from if_pos (by decide),
    show GS d L ft fi q s1 (5 * 0 + 1) = Filling d L ft fi q s1 (ch 1) from if_pos (by decide),
    show GS d L ft fi q s2 (5 * 0 + 2) = Filling d L ft fi q s2 (ch 2) from if_pos (by decide),
    show PS d L ft fi q s3 (5 * 0 + 3) = Idle d L ft fi q s3 from if_pos (by decide),
    show PS d L ft fi q s4 (5 * 0 + 4) = Idle d L ft fi q s4 from if_pos (by decide),
    show Done d L ft fi (5 * 0 + 3) = DoneTo d L ft fi 0 from rfl]
  unfold ToDo DoneTo
  rw [show 5 * 0 = 0 from rfl, fromC_zero, belowC_zero, bigSep_empty]
  rfl

/-- After the last trip: the last five chunks' writes under way, all before written. -/
theorem inv_last (O : CellTallies nD τ sig (HIx 1)) (W : Waits sig (HIx 1)) :
    (TripInv d L ft fi q O W 10 : sProp 𝕄) = iprop(Transfers.MayWaits (tl d L) (default : HIx 1) O
      ∗ Emptying d L ft fi q s0 (ch 45) ∗ Emptying d L ft fi q s1 (ch 46) ∗ Emptying d L ft fi q s2 (ch 47)
      ∗ Emptying d L ft fi q s3 (ch 48) ∗ Emptying d L ft fi q s4 (ch 49)
      ∗ ToDo d L 50 ∗ Done d L ft fi 53 ∗ OW d L O W) := by
  unfold TripInv
  rw [show GS d L ft fi q s0 (5 * 10) = Emptying d L ft fi q s0 (ch 45) from if_neg (by decide),
    show GS d L ft fi q s1 (5 * 10 + 1) = Emptying d L ft fi q s1 (ch 46) from if_neg (by decide),
    show GS d L ft fi q s2 (5 * 10 + 2) = Emptying d L ft fi q s2 (ch 47) from if_neg (by decide),
    show PS d L ft fi q s3 (5 * 10 + 3) = Emptying d L ft fi q s3 (ch 48) from if_neg (by decide),
    show PS d L ft fi q s4 (5 * 10 + 4) = Emptying d L ft fi q s4 (ch 49) from if_neg (by decide)]

set_option maxHeartbeats 2000000 in
theorem tile_body (hF : (K (F := F)).Facts) (hin : InVocab fi) (O : CellTallies nD τ sig (HIx 1)) (W : Waits sig (HIx 1)) (hO : ∀ g, O g none = 0) :
    iprop(levAts (K (F := F)).L (K (F := F)).lev ∗ emp ∗ tileIn d L ft fi q
        ∗ scopedBufs (V d (cV L) (jV L)) ∗ scopedSems0 (V d (cV L) (jV L)) ∗ owes (V d (cV L) (jV L)) O W)
      ⊢ wp frame (wpE (defs₀ (F := F)) 𝒱₀ (tl d L) none) Set.univ (tileProg d L) fun _ => iprop(tileOut d L ft fi q
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileProg
  simp only [cc0_gather_eq_skeleton]; unfold cc0_gather_skel
  simp only [k0_part4_eq_skeleton]; unfold k0_part4_skel
  simp only [wp_bind, wp_pure, fupd_wp_eq]
  rw [(K (F := F)).scopedBufs_V hF d (cV L) (jV L), SparseCore.Cfg.scopedSems0_V (Val := Elt F) d (cV L) (jV L), ownSems_eq, ownBufs_eq]
  unfold tileIn
  iintro ⟨#Hlv, -, ⟨Hi, Ht, Ho⟩, ⟨⟨Hx, B0, B1, B2, B3, B4⟩, Hbr⟩, ⟨⟨G0, W0, G1, W1, G2, W2, G3, W3, G4, W4, Hs⟩, Hsr⟩, HO⟩
  ihave #Hmw := (show levAts (K (F := F)).L (K (F := F)).lev ⊢ Transfers.MayWaits (tl d L) (default : HIx 1) O from
    (K (F := F)).mayWaits_none (thr := tl d L) hO) $$ Hlv
  ihave HO := (show (owes (tl d L) O W : sProp 𝕄) ⊢ OW d L O W from by
    unfold OW; iintro H; iexists W; isplitr
    · ipureintro; exact fun p hp => .inl hp
    · iexact H) $$ HO
  iapply (fetch d L fi) $$ [Hi Hx Hs HO]
  · isplitl [Hi]; · iexact Hi
    isplitl [Hx]; · iexact Hx
    isplitl [Hs]; · iexact Hs
    isplitl [HO]; · iexact HO
    iexact Hmw
  iintro ⟨Hi, Hx, Hs, HO⟩
  ihave HA := (show _ ⊢ AllIdle d L ft fi q from parts_idle d L ft fi q) $$ [B0 B1 B2 B3 B4 G0 W0 G1 W1 G2 W2 G3 W3 G4 W4 Ht Hx]
  · unfold Parts
    isplitl [B0 B1 B2 B3 B4]
    · isplitl [B0]; · iexact B0
      isplitl [B1]; · iexact B1
      isplitl [B2]; · iexact B2
      isplitl [B3] <;> iassumption
    isplitl [G0 W0 G1 W1 G2 W2 G3 W3 G4 W4]
    · isplitl [G0]; · iexact G0
      isplitl [W0]; · iexact W0
      isplitl [G1]; · iexact G1
      isplitl [W1]; · iexact W1
      isplitl [G2]; · iexact G2
      isplitl [W2]; · iexact W2
      isplitl [G3]; · iexact G3
      isplitl [W3]; · iexact W3
      isplitl [G4] <;> iassumption
    isplitl [Ht] <;> iassumption
  unfold AllIdle
  icases HA with ⟨H0, H1, H2, H3, H4⟩
  iapply (gather_start d L ft fi q s0 rows0 hin (ch 0) (off := ![0, 0]) rfl) $$ H0
  iintro H0
  iapply (gather_start d L ft fi q s1 rows1 hin (ch 1) (off := ![1, 0]) rfl) $$ H1
  iintro H1
  iapply (gather_start d L ft fi q s2 rows2 hin (ch 2) (off := ![2, 0]) rfl) $$ H2
  iintro H2
  iapply (Scf.wp_for frame _ Set.univ _ _ _ k0_t1_ok ⟨⟩ _ (fun t _ => TripInv d L ft fi q O W t) (fun t acc => trip d L ft fi q O W hin _ t acc))
  isplitl [H0 H1 H2 H3 H4 Ho HO]
  · rw [inv_first]
    isplitr; · iexact Hmw
    isplitl [H0]; · iexact H0
    isplitl [H1]; · iexact H1
    isplitl [H2]; · iexact H2
    isplitl [H3]; · iexact H3
    isplitl [H4]; · iexact H4
    isplitl [Ho]; · iexact Ho
    isplitr; · iempintro
    iexact HO
  iintro %acc HI
  ihave HI := (Entails.of_eq ((congrArg (fun t => (TripInv d L ft fi q O W t : sProp 𝕄))
    (show Scf.trips k0_t1_loop.lb k0_t1_loop.ub k0_t1_loop.st = 10 from trips_eq)).trans (inv_last d L ft fi q O W))) $$ HI
  icases HI with ⟨-, H0, H1, H2, H3, H4, -, HD, HO⟩
  iapply (write_wait d L ft fi q s0 (ch 45)) $$ [H0 HO]
  · isplitl [H0]; · iexact H0
    isplitl [HO]; · iexact HO
    iexact Hmw
  iintro ⟨H0, O0, HO⟩
  iapply (write_wait d L ft fi q s1 (ch 46)) $$ [H1 HO]
  · isplitl [H1]; · iexact H1
    isplitl [HO]; · iexact HO
    iexact Hmw
  iintro ⟨H1, O1, HO⟩
  iapply (write_wait d L ft fi q s2 (ch 47)) $$ [H2 HO]
  · isplitl [H2]; · iexact H2
    isplitl [HO]; · iexact HO
    iexact Hmw
  iintro ⟨H2, O2, HO⟩
  iapply (write_wait d L ft fi q s3 (ch 48)) $$ [H3 HO]
  · isplitl [H3]; · iexact H3
    isplitl [HO]; · iexact HO
    iexact Hmw
  iintro ⟨H3, O3, HO⟩
  iapply (write_wait d L ft fi q s4 (ch 49)) $$ [H4 HO]
  · isplitl [H4]; · iexact H4
    isplitl [HO]; · iexact HO
    iexact Hmw
  iintro ⟨H4, O4, HO⟩
  ihave HP := (show _ ⊢ Parts d L ft fi q from idle_parts d L ft fi q) $$ [H0 H1 H2 H3 H4]
  · unfold AllIdle
    isplitl [H0]; · iexact H0
    isplitl [H1]; · iexact H1
    isplitl [H2]; · iexact H2
    isplitl [H3] <;> iassumption
  unfold Parts
  icases HP with ⟨⟨B0, B1, B2, B3, B4⟩, ⟨G0, W0, G1, W1, G2, W2, G3, W3, G4, W4⟩, Ht, Hx⟩
  imodintro
  unfold tileOut
  isplitl [Hi Ht O0 O1 O2 O3 O4 HD]
  · isplitl [Hi]; · iexact Hi
    isplitl [Ht]; · iexact Ht
    iapply (done_all d L ft fi)
    isplitl [O0 O1 O2 O3 O4]
    · isplitl [O0]; · iexact O0
      isplitl [O1]; · iexact O1
      isplitl [O2]; · iexact O2
      isplitl [O3] <;> iassumption
    iexact HD
  isplitl [Hx B0 B1 B2 B3 B4 Hbr]
  · isplitl [Hx B0 B1 B2 B3 B4]
    · isplitl [Hx]; · iexists _; iexact Hx
      isplitl [B0]; · iexact B0
      isplitl [B1]; · iexact B1
      isplitl [B2]; · iexact B2
      isplitl [B3] <;> iassumption
    iexact Hbr
  isplitl [G0 W0 G1 W1 G2 W2 G3 W3 G4 W4 Hs Hsr]
  · isplitr [Hsr]
    · isplitl [G0]; · iexact G0
      isplitl [W0]; · iexact W0
      isplitl [G1]; · iexact G1
      isplitl [W1]; · iexact W1
      isplitl [G2]; · iexact G2
      isplitl [W2]; · iexact W2
      isplitl [G3]; · iexact G3
      isplitl [W3]; · iexact W3
      isplitl [G4]; · iexact G4
      isplitl [W4] <;> iassumption
    iexact Hsr
  unfold OW
  iexact HO

end Body

end Cert.Proof.Embed

end
-- ==== Proof.Split.lean ====
/-
  The whole arrays and the 32 tiles' parts of them: each tile's row of the ids, its share of the table, its fifty chunks
  of the output. Together the parts are the arrays.
-/
module

public import proofs.«01_k».proof.Proof.Tile

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The grid coordinates of subcore `s` of core `c`. -/
def mkL (c : Fin (grid0.bound 0)) (s : Fin (grid0.bound 1)) : grid0.Coords :=
  fun | 0 => c | 1 => s | ⟨_ + 2, h⟩ => absurd h (Nat.not_lt.2 (Nat.le_add_left _ _))

theorem wid_mkL (c : Fin 2) (s : Fin 16) : (wid (mkL c s)).val = 2 * s.val + c.val := rfl

/-- The tile's share of the table. -/
abbrev tq (L : grid0.Coords) : PosShare TreeShare := pieceOf fullShare 32 (by decide) (wid L)

/-- Cores and subcores number the 32 tiles. -/
def widEquiv : Fin 2 × Fin 16 ≃ Fin 32 where
  toFun p := wid (mkL p.1 p.2)
  invFun w := (⟨w.val % 2, by omega⟩, ⟨w.val / 2, by have := w.isLt; omega⟩)
  left_inv := fun ⟨c, s⟩ => by
    have := c.isLt
    refine Prod.ext (Fin.ext ?_) (Fin.ext ?_)
    · show (2 * s.val + c.val) % 2 = c.val; omega
    · show (2 * s.val + c.val) / 2 = s.val; omega
  right_inv w := by
    apply Fin.ext; show 2 * (w.val / 2) + w.val % 2 = w.val; omega

/-- An element of the output lies in the chunk its row's number names. -/
theorem mem_oSet (L : grid0.Coords) (n : Fin 50) (r : S204800x128.Idx) :
    r ∈ oSet L n ↔ (r 0).val / 128 = 50 * (wid L).val + n.val := by
  constructor
  · intro h
    obtain ⟨x, -, rfl⟩ := Finset.mem_map.mp h
    have hx : (x 0).val < 128 := (x 0).isLt
    rw [oSl_emb]
    show (6400 * (wid L).val + 128 * n.val + (x 0).val) / 128 = _
    omega
  · intro h
    refine Finset.mem_map.mpr ⟨ix2 ⟨(r 0).val % 128, by omega⟩ (r 1), Finset.mem_univ _, ?_⟩
    rw [oSl_emb]
    funext a; apply Fin.ext
    match a with
    | 0 => show 6400 * (wid L).val + 128 * n.val + (r 0).val % 128 = (r 0).val; omega
    | 1 => rfl

/-- An element of the ids lies in the row of the tile it names. -/
theorem mem_iSet (L : grid0.Coords) (r : S32x50x128.Idx) : r ∈ iSet L ↔ (r 0).val = (wid L).val := by
  constructor
  · intro h
    obtain ⟨x, -, rfl⟩ := Finset.mem_map.mp h
    rw [iRow_emb]
  · intro h
    refine Finset.mem_map.mpr ⟨ix2 (r 1) (r 2), Finset.mem_univ _, ?_⟩
    rw [iRow_emb]
    funext a; apply Fin.ext
    match a with
    | 0 => exact h.symm
    | 1 => rfl
    | 2 => rfl

section Whole

variable (d : Dev nD)

/-- The table, dealt to the tiles. -/
theorem tbl_split (f : Buf (Elt F) (tLoc d)) :
    (tLoc d ↦{fullShare} f : sProp 𝕄)
      = bigSep Finset.univ fun c : Fin 2 => bigSep Finset.univ fun s : Fin 16 => tLoc d ↦{tq (mkL c s)} f := by
  refine (pointsTo_piecesOf (o := 32) Finset.univ f (by decide) fullShare).trans ?_
  rw [bigSep_univ_equiv widEquiv, bigSep_univ_prod]
  rfl

/-- The ids, dealt to the tiles. -/
theorem ids_split (f : Buf (Elt F) (iLoc d)) :
    (iLoc d ↦{fullShare} f : sProp 𝕄)
      = bigSep Finset.univ fun c : Fin 2 => bigSep Finset.univ fun s : Fin 16 => iLoc d ↦[iSet (mkL c s)]{fullShare} f := by
  have hc : (Finset.univ : Finset (Fin 2 × Fin 16)).biUnion (fun p => iSet (mkL p.1 p.2)) = Finset.univ :=
    Finset.eq_univ_iff_forall.mpr fun r => by
      have h32 : (r 0).val < 32 := (r 0).isLt
      refine Finset.mem_biUnion.mpr ⟨(⟨(r 0).val % 2, by omega⟩, ⟨(r 0).val / 2, by omega⟩), Finset.mem_univ _, (mem_iSet _ r).mpr ?_⟩
      rw [wid_mkL]; show (r 0).val = 2 * ((r 0).val / 2) + (r 0).val % 2; omega
  have hd : ∀ p ∈ (Finset.univ : Finset (Fin 2 × Fin 16)), ∀ p' ∈ (Finset.univ : Finset (Fin 2 × Fin 16)), p ≠ p' →
      Disjoint (iSet (mkL p.1 p.2)) (iSet (mkL p'.1 p'.2)) := by
    intro p _ p' _ hne
    refine Finset.disjoint_left.mpr fun r h h' => hne ?_
    have e := ((mem_iSet _ r).mp h).symm.trans ((mem_iSet _ r).mp h')
    exact widEquiv.injective (Fin.ext e)
  have h := pointsTo_biUnion (Ix := HIx 1) (Name := ℕ) (U := UU) (Lvl := ℕ) (ℓ := iLoc d) (q := fullShare) (f := f) Finset.univ
    (fun p : Fin 2 × Fin 16 => iSet (mkL p.1 p.2)) hd
  rw [hc, bigSep_univ_prod] at h
  exact h

set_option maxRecDepth 16384 in
/-- The output, dealt to the tiles chunk by chunk. -/
theorem out_split (f : Buf (Elt F) (oLoc d)) :
    (oLoc d ↦{fullShare} f : sProp 𝕄)
      = bigSep Finset.univ fun c : Fin 2 => bigSep Finset.univ fun s : Fin 16 => bigSep Finset.univ fun n : Fin 50 =>
          oLoc d ↦[oSet (mkL c s) n]{fullShare} f := by
  have hc : (Finset.univ : Finset (Fin 2 × Fin 16 × Fin 50)).biUnion (fun p => oSet (mkL p.1 p.2.1) p.2.2) = Finset.univ :=
    Finset.eq_univ_iff_forall.mpr fun r => by
      have h : (r 0).val < 204800 := (r 0).isLt
      let c : Fin 2 := ⟨(r 0).val / 6400 % 2, by omega⟩
      let s : Fin 16 := ⟨(r 0).val / 6400 / 2, by omega⟩
      let n : Fin 50 := ⟨(r 0).val % 6400 / 128, by omega⟩
      have hm : r ∈ oSet (mkL c s) n := (mem_oSet _ _ r).mpr (by
        rw [wid_mkL]
        show (r 0).val / 128 = 50 * (2 * ((r 0).val / 6400 / 2) + (r 0).val / 6400 % 2) + (r 0).val % 6400 / 128
        omega)
      exact Finset.mem_biUnion.mpr ⟨(c, s, n), Finset.mem_univ _, hm⟩
  have hd : ∀ p ∈ (Finset.univ : Finset (Fin 2 × Fin 16 × Fin 50)), ∀ p' ∈ (Finset.univ : Finset (Fin 2 × Fin 16 × Fin 50)), p ≠ p' →
      Disjoint (oSet (mkL p.1 p.2.1) p.2.2) (oSet (mkL p'.1 p'.2.1) p'.2.2) := by
    rintro ⟨c, s, n⟩ _ ⟨c', s', n'⟩ _ hne
    refine Finset.disjoint_left.mpr fun r h h' => hne ?_
    have e := ((mem_oSet _ _ r).mp h).symm.trans ((mem_oSet _ _ r).mp h')
    rw [wid_mkL, wid_mkL] at e
    replace e : 50 * (2 * s.val + c.val) + n.val = 50 * (2 * s'.val + c'.val) + n'.val := e
    have := c.isLt; have := c'.isLt; have := s.isLt; have := s'.isLt; have := n.isLt; have := n'.isLt
    refine Prod.ext (Fin.ext ?_) (Prod.ext (Fin.ext ?_) (Fin.ext ?_))
    · show c.val = c'.val; omega
    · show s.val = s'.val; omega
    · show n.val = n'.val; omega
  have h := pointsTo_biUnion (Ix := HIx 1) (Name := ℕ) (U := UU) (Lvl := ℕ) (ℓ := oLoc d) (q := fullShare) (f := f) Finset.univ
    (fun p : Fin 2 × Fin 16 × Fin 50 => oSet (mkL p.1 p.2.1) p.2.2) hd
  rw [hc, bigSep_univ_prod] at h
  refine h.trans (bigSep_congr fun c _ => ?_)
  exact bigSep_univ_prod (fun p : Fin 16 × Fin 50 => (oLoc d ↦[oSet (mkL c p.1) p.2]{fullShare} f : sProp 𝕄))

/-- The three arrays are every tile's parts, before the task, -/
theorem deal (ft : Buf (Elt F) (tLoc d)) (fi : Buf (Elt F) (iLoc d)) (fo : Buf (Elt F) (oLoc d)) :
    iprop((iLoc d ↦{fullShare} fi) ∗ (tLoc d ↦{fullShare} ft) ∗ oLoc d ↦{fullShare} fo)
      ⊢ (bigSep Finset.univ fun c : Fin 2 => bigSep Finset.univ fun s : Fin 16 => tileIn d (mkL c s) ft fi (tq (mkL c s)) : sProp 𝕄) := by
  unfold tileIn
  simp only [bigSep_sep']
  rw [tbl_split, ids_split, out_split]
  refine sep_mono .rfl (sep_mono .rfl (bigSep_mono fun c _ => bigSep_mono fun s _ => bigSep_mono fun n _ => ?_))
  exact exists_intro (Φ := fun f => (oLoc d ↦[oSet (mkL c s) n]{fullShare} f : sProp 𝕄)) fo

/-- and after it, with the output the gathered rows. -/
theorem collect (ft : Buf (Elt F) (tLoc d)) (fi : Buf (Elt F) (iLoc d)) :
    (bigSep Finset.univ fun c : Fin 2 => bigSep Finset.univ fun s : Fin 16 => tileOut d (mkL c s) ft fi (tq (mkL c s)) : sProp 𝕄)
      ⊢ iprop((iLoc d ↦{fullShare} fi) ∗ (tLoc d ↦{fullShare} ft) ∗ oLoc d ↦{fullShare} (gathered ft fi : Buf (Elt F) (oLoc d))) := by
  unfold tileOut oPost
  simp only [bigSep_sep']
  rw [tbl_split, ids_split, out_split]

end Whole

end Cert.Proof.Embed

end
-- ==== Proof.Launch.lean ====
/-
  The SparseCore call as the launch theorem takes it: what the handshakes carry (each tile its parts of the three arrays,
  with their contents), a tile's task proved from its start payload to its end payload, a core's payload dealt to its
  sixteen tiles, and the ghost state at the launch — the handshakes' rounds and the TensorCore pipeline's.
-/
module

public import proofs.«01_k».proof.Proof.Split
public import proofs.«01_k».proof.Proof.Gen.KernelIdeal.Launch

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## The contents -/

/-- The token ids as @main hands them to the kernel: transposed, flattened, dealt to the tiles. -/
def tokens (a : S4096x50.Idx → BitVec 32) : S32x50x128.Idx → BitVec 32 :=
  shapeCast S32x50x128 (shapeCast S204800 (transpose S50x4096 [1, 0] a transposes_S4096x50_S50x4096_1_0)
    shapeCasts_S50x4096_S204800) shapeCasts_S204800_S32x50x128

abbrev tokLoc (d : Dev nD) : Loc nD τ sig := (SparseCore.T d).loc main_arg0

/-- The ids and the table at the call. -/
def fi (d : Dev nD) : Buf (Elt F) (iLoc d) := tokens (m (tokLoc d))
def ft (d : Dev nD) : Buf (Elt F) (tLoc d) := m (tLoc d)

/-- What the proof asks of the launch memory: every token id is below the table's height. -/
def PreOK : Prop := ∀ (d : Dev nD) (j : S4096x50.Idx), (m (tokLoc d) j).toNat < 100000

variable {m} in
theorem PreOK.inVocab (h : PreOK m) (d : Dev nD) : InVocab (fi m d) := fun _ => h d _

/-! ## The payloads -/

abbrev tin (d : Dev nD) (c : Fin 2) (s : Fin 16) : sProp 𝕄 := tileIn d (mkL c s) (ft m d) (fi m d) (tq (mkL c s))
abbrev tout (d : Dev nD) (c : Fin 2) (s : Fin 16) : sProp 𝕄 := tileOut d (mkL c s) (ft m d) (fi m d) (tq (mkL c s))

instance tin_storable (d : Dev nD) (c : Fin 2) (s : Fin 16) : BI.Storable (upEmb : UEmb _ 𝕄) (tin m d c s) := by
  unfold tin tileIn oPre; infer_instance
instance tout_storable (d : Dev nD) (c : Fin 2) (s : Fin 16) : BI.Storable (upEmb : UEmb _ 𝕄) (tout m d c s) := by
  unfold tout tileOut oPost; infer_instance

/-- A tile's start carries its parts of the arrays, its end the same with the output written; a core's carries its
    sixteen tiles'. -/
def P : (K (F := F)).Pay (nD := nD) (Val := Elt F) (Name := ℕ) (U := UU) where
  st := fun q d c => match q with | 0 => bigSep Finset.univ fun s : Fin 16 => tin m d (Fin.cast nCore_zero c) s
  dn := fun q d c => match q with | 0 => bigSep Finset.univ fun s : Fin 16 => tout m d (Fin.cast nCore_zero c) s
  go := fun q d c i => match q with | 0 => tin m d (Fin.cast nCore_zero c) (Fin.cast nSub_zero i)
  td := fun q d c i => match q with | 0 => tout m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => tin m d (Fin.cast nCore_zero c) s))
  dn q d c := match q with
    | 0 => (inferInstance : BI.Storable (upEmb : UEmb _ 𝕄) (bigSep Finset.univ fun s : Fin 16 => tout m d (Fin.cast nCore_zero c) s))
  go q d c i := match q with
    | 0 => (inferInstance : BI.Storable (upEmb : UEmb _ 𝕄) (tin m d (Fin.cast nCore_zero c) (Fin.cast nSub_zero i)))
  td q d c i := match q with
    | 0 => (inferInstance : BI.Storable (upEmb : UEmb _ 𝕄) (tout m d (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's payload is its tiles'. -/
theorem vecSplit : (K (F := F)).VecSplit' (P m) 0 := by
  intro d c
  show (bigSep Finset.univ fun s : Fin 16 => tin m d (Fin.cast nCore_zero c) s) ⊢ |={Set.univ}=> iprop(
      (bigSep Finset.univ fun i : Fin ((K (F := F)).nSub 0) => tin m d (Fin.cast nCore_zero c) (Fin.cast nSub_zero i))
      ∗ ((bigSep Finset.univ fun i : Fin ((K (F := F)).nSub 0) => tout m d (Fin.cast nCore_zero c) (Fin.cast nSub_zero i))
          -∗ bigSep Finset.univ fun s : Fin 16 => tout m d (Fin.cast nCore_zero c) s))
  rw [bigSep_tasks (F := F) (fun i => tin m d (Fin.cast nCore_zero c) i),
    bigSep_tasks (F := F) (fun i => tout m d (Fin.cast nCore_zero c) i)]
  iintro H; imodintro
  isplitl [H]; · iexact H
  iintro H; iexact H

/-- All the cores' payloads at the call: the three arrays, -/
theorem st0 (d : Dev nD) (fo : Buf (Elt F) (oLoc d)) :
    iprop((iLoc d ↦{fullShare} fi m d) ∗ (tLoc d ↦{fullShare} ft m d) ∗ oLoc d ↦{fullShare} fo)
      ⊢ (bigSep Finset.univ fun c : Fin ((K (F := F)).nCore 0) => (P m).st 0 d c : sProp 𝕄) :=
  (deal d (ft m d) (fi m d) fo).trans (Entails.of_eq
    (bigSep_cores (F := F) fun c => bigSep Finset.univ fun s : Fin 16 => tin m d c s).symm)

/-- and after it, with the rows gathered. -/
theorem dn0 (d : Dev nD) :
    (bigSep Finset.univ fun c : Fin ((K (F := F)).nCore 0) => (P m).dn 0 d c : sProp 𝕄)
      ⊢ iprop((iLoc d ↦{fullShare} fi m d) ∗ (tLoc d ↦{fullShare} ft m d)
          ∗ oLoc d ↦{fullShare} (gathered (ft m d) (fi m d) : Buf (Elt F) (oLoc d))) :=
  (Entails.of_eq (bigSep_cores (F := F) fun c => bigSep Finset.univ fun s : Fin 16 => tout m d c s)).trans
    (collect d (ft m d) (fi m d))

/-! ## The launch element -/

/-- No pipeline prefetches a table. -/
abbrev adm : (p : Fin 1) → (pcfgs (F := F) p).Adm := fun q => (cfgs q).toPCfg_adm

/-- The pipelines as the region rule sees them. -/
abbrev pins : Fin 1 → Pipeline.Cfg sig Λ₀ := Pipeline.pin (pcfgs (F := F)) adm

theorem pins_inj : Function.Injective (Pipeline.cellOf (nD := nD) (τ := τ) (pins (F := F))) := cellOf_inj

/-- The pipeline's ghost state dealt to device `d`. -/
def G (d : Dev nD) : sProp 𝕄 :=
  iprop(Pipeline.cellsGhost (pins (F := F)) EB 0 d ∗ Pipeline.toksInit (pins (F := F)) EB 0 d)

def u₀ : UU := (initOf (K (F := F)).hsCells (K (F := F)).hsToks,
  (initOf (Pipeline.cells (pins (F := F)) pins_inj) (Pipeline.launchToks (pins (F := F)) pins_inj), 1))

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split _ _) $$ Hu
  icases H with ⟨HH, HB⟩
  imod (Pipeline.fund_ghost (pins (F := F)) EB pins_inj) $$ HB with ⟨Hc, Ht⟩
  imodintro
  isplitl [HH]; · iexact HH
  isplitl [Hc Ht]
  · unfold G
    rw [bigSep_sep']
    isplitl [Hc]
    · iapply (Entails.of_eq (bigSep_congr (Ψ := fun c : Dev nD => Pipeline.cellsGhost (pins (F := F)) EB 0 c) fun c _ =>
        bigSep_univ_of_subsingleton (Φ := fun p => Pipeline.cellsGhost (pins (F := F)) EB p c) (0 : Fin 1))); iexact Hc
    · iapply (Entails.of_eq (bigSep_congr (Ψ := fun c : Dev nD => Pipeline.toksInit (pins (F := F)) EB 0 c) fun c _ =>
        bigSep_univ_of_subsingleton (Φ := fun p => Pipeline.toksInit (pins (F := F)) EB p c) (0 : Fin 1))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The tiles' obligation -/

variable [FloatOps F]

theorem defs₀_vector (c : Fin τ.nSC) (s : Fin τ.nSub) (d : Dev nD) :
    defs₀ (F := F) (.scVector c s) 0 ()
      = SparseCore.onTile hcore0 hsub0 (fun c s => cc0_gather (F := F) (mkL c s) tM (Memref.isWhole_whole _) iM (Memref.isWhole_whole _) oM (Memref.isWhole_whole _)
          xM (Memref.isWhole_whole _) b0 (Memref.isWhole_whole _) b1 (Memref.isWhole_whole _) b2 (Memref.isWhole_whole _)
          b3 (Memref.isWhole_whole _) b4 (Memref.isWhole_whole _)
          cc0_scratch6 cc0_scratch7 cc0_scratch8 cc0_scratch9 cc0_scratch10 cc0_scratch11 cc0_scratch12 cc0_scratch13 cc0_scratch14 cc0_scratch15
          cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector _ _ d]; simp only [SparseCore.onTile, hci, and_self, ↓reduceDIte]
  exact (tile_body d (mkL ⟨_, hci.1⟩ ⟨_, hci.2⟩) (ft m d) (fi m d) _ facts (hpre.inVocab d) O W hO).trans (wp_mono frame _ _ fun _ => obl_post)

end Cert.Proof.Embed

end
-- ==== Proof.Region.lean ====
/-
  The TensorCore's part of the kernel: one call of the pipelined region that multiplies the dense features by the
  weights.

  The region has one grid point and three windows, each a whole array: the features, the weights, the product. Its
  body loads the two inputs and stores their product. This file runs the body once, states the region's proof data
  from any contents `V` of the unscoped buffers, and gives the region's rule: it is entered with every unscoped
  buffer at `V`, and left with every one at `V` but the product's, which holds the product.

  The core owes nothing while the region runs, and the waits it has recorded stay at or below the level the launch of
  the SparseCore call left them at: the region's own waits have level zero.
-/
module

public import proofs.«01_k».proof.Proof.Launch
public import proofs.«01_k».proof.Proof.Gen.KernelIdeal.Points
public import Idealize.ShloMosaic.Lib.Pipeline.RegionsLoop
public import Idealize.ShloMosaic.Lib.Pipeline.ValueKit.Geometry
public import Idealize.ShloMosaic.Lib.VecWindow

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

open Idealize.ShloMosaic.Pipeline (Dat BodyObligation)

local notation "𝕄" => MT nD τ sig (HIx 1) (Elt F) ℕ UU ℕ

variable [FloatOps F]

/-! ## The body -/

/-- The whole of a memref's buffer on the TensorCore of device `d`, at contents `f`. -/
abbrev holds (d : Dev nD) {sp : Space} {s : Shape} {e : EltTy} (M : Memref sig .tc sp s e) (f : Buf (Elt F) (M.view.loc (T d : Thread nD τ))) :
    sProp 𝕄 :=
  M.view.loc (T d : Thread nD τ) ↦{fullShare} f

/-- The body's run: from its three buffers it ends with the two inputs untouched and the product stored over whatever
    the third held. -/
theorem mm_body (d : Dev nD) (A : Memref sig .tc .vmem S4096x128 .f32) (hA : A.IsWhole) (B : Memref sig .tc .vmem S128x128 .f32)
    (hB : B.IsWhole) (C : Memref sig .tc .vmem S4096x128 .f32) (hC : C.IsWhole) (fa : Buf (Elt F) (A.view.loc (T d : Thread nD τ)))
    (fb : Buf (Elt F) (B.view.loc (T d : Thread nD τ))) (fc : Buf (Elt F) (C.view.loc (T d : Thread nD τ))) (Q : PUnit → sProp 𝕄) :
    iprop(holds d A fa ∗ holds d B fb ∗ holds d C fc ∗ (iprop(holds d A fa ∗ holds d B fb ∗ ∃ g, ⌜C.view.read (Elt F) g
        = k1_pay1 (A.view.read (Elt F) fa) (B.view.read (Elt F) fb)⌝ ∗ holds d C g) -∗ Q ⟨⟩))
      ⊢ wp frame (wpE (defs₀ (F := F)) Variants.none (T d) none) Set.univ (cc1_mm A hA B hB C hC) Q := by
  simp only [cc1_mm_eq_skeleton]; unfold cc1_mm_skel
  iintro ⟨HA, HB, HC, Hk⟩
  sl_exec
  sl_step
  iapply Hk
  isplitl [HA]; · iexact HA
  isplitl [HB]; · iexact HB
  iexists _
  isplitr; swap; (· iexact HC)
  ipureintro
  refine (View.read_writes_full C.view fc inb_S4096x128_S4096x128_0_0 _ []).trans ?_
  exact congrArg₂ k1_pay1 (View.readAt_full A.view fa inb_S4096x128_S4096x128_0_0) (View.readAt_full B.view fb inb_S128x128_S128x128_0_0)

/-! ## The region's proof data -/

section Region

variable (V : (d : Dev nD) → (b : Ref sig .tc) → Buf (Elt F) ((T d : Thread nD τ).loc b))

/-- The product of the features and the weights. -/
def product (d : Dev nD) : S4096x128.Idx → Elt F .f32 := k1_pay1 (V d main_arg1) (V d main_arg3)

theorem blk0_read (f : S4096x128.Idx → Elt F .f32) : ((cfg1.win 0).blk t1_0).view.read (Elt F) f = f := by
  funext j
  refine (View.read_apply _ _).trans ((cast_eq _ _).trans (congrArg f ?_))
  funext a; apply Fin.ext
  match a with
  | 0 => show 0 + 1 * (j 0).val = (j 0).val; omega
  | 1 => show 0 + 1 * (j 1).val = (j 1).val; omega

theorem blk1_read (f : S128x128.Idx → Elt F .f32) : ((cfg1.win 1).blk t1_0).view.read (Elt F) f = f := by
  funext j
  refine (View.read_apply _ _).trans ((cast_eq _ _).trans (congrArg f ?_))
  funext a; apply Fin.ext
  match a with
  | 0 => show 0 + 1 * (j 0).val = (j 0).val; omega
  | 1 => show 0 + 1 * (j 1).val = (j 1).val; omega

/-- The pairs of an own semaphore and an index whose level the SparseCore call left behind. -/
abbrev oldWaits (d : Dev nD) : Set (SemLoc sig × HIx 1) := {p | (K (F := F)).lev ((T d : Thread nD τ), p.1) p.2 ≤ 8}

/-- The region's proof data at the entry contents `V`: the arrays at `V`, each staging buffer after the body, the
    scoped buffers the region does not stage, nothing owed. -/
def mmDat (d : Dev nD) : Dat τ (Elt F) (HIx 1) ℕ UU ℕ cfg1 d where
  A w := V d (Pipeline.arrRef spec1 w)
  after w _ := match w with
    | ⟨0, _⟩ => V d main_arg1
    | ⟨1, _⟩ => V d main_arg3
    | ⟨2, _⟩ => product V d
  Φ _ := Pipeline.scopedRest (Ix := HIx 1) (Name := ℕ) (U := UU) (Lvl := ℕ) (Val := Elt F) spec1 d
  q _ := fullShare
  owed _ := 0
  recorded _ := oldWaits (F := F) d

theorem before0 (d : Dev nD) (x : (cfg1.win 0).block.Idx → Elt F (cfg1.win 0).elt) : (mmDat V d).before 0 t1_0 x = V d main_arg1 := by
  unfold Dat.before; rw [if_pos (by decide)]; exact blk0_read (V d main_arg1)

theorem before1 (d : Dev nD) (x : (cfg1.win 1).block.Idx → Elt F (cfg1.win 1).elt) : (mmDat V d).before 1 t1_0 x = V d main_arg3 := by
  unfold Dat.before; rw [if_pos (by decide)]; exact blk1_read (V d main_arg3)

/-- The body keeps the proof data: from the two staged inputs it leaves their product in the third buffer. -/
theorem mm_obligation (d : Dev nD) : BodyObligation (mmDat V d) (defs₀ (F := F)) Variants.none (none : HIx 1) Set.univ := fun t => by
  obtain rfl := fin_N1 t
  rw [bigSep_W1, bigSep_W1]
  simp only [owns_whole_eq]
  rw [show (mmDat V d).Φ t1_0.castSucc = (mmDat V d).Φ t1_0.succ from rfl,
    show (mmDat V d).owesAt none t1_0.succ = (mmDat V d).owesAt none t1_0.castSucc from rfl]
  iintro ⟨HΦ, HO, ⟨%x0, %fa, %ha, HA⟩, ⟨%x1, %fb, %hb, HB⟩, ⟨%x2, %fc, -, HC⟩⟩
  rw [before0] at ha
  rw [before1] at hb
  iapply (mm_body d (stage1_0 0) (hstage1_0 0) (stage1_1 0) (hstage1_1 0) (stage1_2 0) (hstage1_2 0) fa fb fc _)
  isplitl [HA]; · iexact HA
  isplitl [HB]; · iexact HB
  isplitl [HC]; · iexact HC
  iintro ⟨HA, HB, %g, %hg, HC⟩
  isplitl [HΦ]; · iexact HΦ
  isplitl [HO]; · iexact HO
  isplitl [HA]
  · iexists fa; isplitr; swap; (· iexact HA); ipureintro; dsimp only [mmDat]; exact ha
  isplitl [HB]
  · iexists fb; isplitr; swap; (· iexact HB); ipureintro; dsimp only [mmDat]; exact hb
  iexists g; isplitr; swap; (· iexact HC); ipureintro; dsimp only [mmDat]
  exact hg.trans (congrArg₂ k1_pay1 ha hb)

/-- The product's array after the region. -/
theorem arr2_final (d : Dev nD) : (mmDat V d).arrAt 2 cfg1.N = product V d := by
  refine Dat.arrAt_eq_of_after_last (mmDat V d) 2 t1_0 (by decide +kernel) _ fun j => ?_
  rfl

/-! ## The region's rule -/

/-- The proof data of the program's pipelines: there is one. -/
def mmDats : (p : Fin 1) → (d : Dev nD) → Dat τ (Elt F) (HIx 1) ℕ UU ℕ (Pipeline.pin (pcfgs (F := F)) adm p) d
  | ⟨0, _⟩ => fun d => mmDat V d

/-- The core owing nothing, its recorded waits at or below the level the SparseCore call left. -/
abbrev idle (d : Dev nD) : sProp 𝕄 :=
  iprop(∃ W, ⌜∀ p ∈ W, (K (F := F)).lev ((T d : Thread nD τ), p.1) p.2 ≤ 8⌝ ∗ owes (T d : Thread nD τ) (0 : CellTallies nD τ sig (HIx 1)) W)

variable (Vp : (d : Dev nD) → (b : Ref sig .tc) → Buf (Elt F) ((T d : Thread nD τ).loc b))

set_option backward.isDefEq.respectTransparency.types false in
/-- The region, entered with every unscoped buffer at `V` and left with every one at `Vp`, any contents that are the
    product at the product's array and `V` elsewhere. -/
def mmRegion (hout : ∀ d, Vp d main_v6 = product V d) (hne : ∀ d (b : Ref sig .tc), b ≠ main_v6 → Vp d b = V d b) :
    Pipeline.RegionSeg (pcfgs (F := F)) adm (mmDats V) (none : HIx 1) defs₀ Variants.none (K (F := F)).L (K (F := F)).lev 0 where
  win := launch1.win.to₀
  block_pos := launch1.block_pos
  stage_whole := launch1.stage_whole
  K := PEmpty
  osem k := k.elim
  ho := Pipeline.OwnSemFacts.none _
  hbody d := (mm_obligation V d).loose
  hwaits := Pipeline.hwaits_of_owed_zero _ _ _ _ _ _ 0 fun _ _ => rfl
  pre d := iprop(unscopedBufs d (V d) ∗ idle (F := F) d)
  post d := iprop(unscopedBufs d (Vp d) ∗ idle (F := F) d)
  X _ := BI.emp
  Y _ := BI.emp
  Z d := Pipeline.unscopedRest (Ix := HIx 1) (Name := ℕ) (U := UU) (Lvl := ℕ) spec1 d (V d)
  hentry d := by
    rw [Pipeline.ownSems0_none]
    iintro ⟨⟨HB, %W, %hW, HO⟩, -, -⟩
    ihave H := (Pipeline.arrays_of_unscopedBufs (p := 0) (pcfgs (F := F)) adm (mmDats V) launch1.win launch1.arr_whole d
      ((mmDats V 0 d).share_full fun _ => rfl) (V d) fun _ => rfl) $$ HB
    icases H with ⟨HA, HR⟩
    imodintro
    isplitl [HA]; · iexact HA
    isplitr
    · unfold Pipeline.prefHeld
      rw [show (Finset.univ : Finset (Fin 0)) = ∅ from rfl, BI.bigSep_empty]
      iempintro
    isplitl [HO]
    · unfold Pipeline.Dat.owesAt Pipeline.owesWithin
      iexists W
      isplitr
      · ipureintro; exact fun p hp => Or.inl (hW p hp)
      iexact HO
    isplitr; · iempintro
    iexact HR
  hin d := by
    rw [show (mmDats V 0 d).Φ 0 = Pipeline.scopedRest spec1 d from rfl]
    iintro ⟨-, -, H⟩; iexact H
  hout d := by
    rw [Pipeline.ownSems0_none, show (mmDats V 0 d).Φ (Fin.last _) = Pipeline.scopedRest spec1 d from rfl]
    iintro H
    isplitr; · iempintro
    isplitr; · iempintro
    iexact H
  hexit d := by
    have hjoin := Pipeline.unscopedBufs_of_arrays (p := 0) (pcfgs (F := F)) adm (Ix := HIx 1) (Name := ℕ) (U := UU) (Lvl := ℕ)
      launch1.win launch1.arr_whole d (mmDats V) ((mmDats V 0 d).share_full fun _ => rfl) (V d) (Vp d)
      ((mmDats V 0 d).arrAt · cfg1.N)
      (fun w => by
        fin_cases w
        · exact ((mmDats V 0 d).arrAt_in 0 rfl _).trans (hne d main_arg1 (by decide)).symm
        · exact ((mmDats V 0 d).arrAt_in 1 rfl _).trans (hne d main_arg3 (by decide)).symm
        · exact (arr2_final V d).trans (hout d).symm)
      (fun b hb => hne d b fun h => hb (h ▸ Finset.mem_image.mpr ⟨2, Finset.mem_univ _, rfl⟩))
    iintro ⟨HA, HO, -, HR⟩
    imodintro
    isplitl [HA HR]
    · iapply hjoin
      isplitl [HA] <;> iassumption
    unfold Pipeline.Dat.owesAt Pipeline.owesWithin
    icases HO with ⟨%W, %hW, HO⟩
    iexists W
    isplitr; swap; · iexact HO
    ipureintro
    intro p hp
    rcases hW hp with h | ⟨w, s, h⟩
    · exact h
    · rw [h]; exact Nat.zero_le _

end Region

end Cert.Proof.Embed

end
-- ==== Proof.Values.lean ====
/-
  What @main's buffers hold, step by step.

  The TensorCore transposes the token ids, flattens them and deals them to the tiles; the SparseCores gather the rows;
  the TensorCore reshapes and transposes the rows, and multiplies the features by the weights. Each step is a
  valuation of the device's buffers here, and the last theorems read off it the two results and the arguments.
-/
module

public import proofs.«01_k».proof.Proof.Region

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (m : (ℓ : Loc nD τ sig) → Buf (Elt F) ℓ)

/-! ## The host operations -/

abbrev op0 : HloOp τ sig (Elt F) := StableHlo.unary main_arg0 main_v0 ((transpose S50x4096 [1, 0] · transposes_S4096x50_S50x4096_1_0) :
  (⟨S4096x50, .i32⟩ : BufTy).Contents (Elt F) → (⟨S50x4096, .i32⟩ : BufTy).Contents (Elt F))
abbrev op1 : HloOp τ sig (Elt F) := StableHlo.reshape main_v0 main_v1 (rfl : (.i32 : EltTy) = .i32) shapeCasts_S50x4096_S204800
abbrev op2 : HloOp τ sig (Elt F) := StableHlo.reshape main_v1 main_v2 (rfl : (.i32 : EltTy) = .i32) shapeCasts_S204800_S32x50x128
abbrev op4 : HloOp τ sig (Elt F) := StableHlo.reshape main_v3 main_v4 (rfl : (.f32 : EltTy) = .f32) shapeCasts_S204800x128_S50x4096x128
abbrev op5 : HloOp τ sig (Elt F) := StableHlo.unary main_v4 main_v5 ((transpose S4096x50x128 [1, 0, 2] · transposes_S50x4096x128_S4096x50x128_1_0_2) :
  (⟨S50x4096x128, .f32⟩ : BufTy).Contents (Elt F) → (⟨S4096x50x128, .f32⟩ : BufTy).Contents (Elt F))

/-! ## The valuations -/

/-- The launch memory of device `d`, -/
def V0 (d : Dev nD) : Valuation τ sig (Elt F) := fun b => m (d, b)
/-- after the three operations on the ids, -/
def V3 (d : Dev nD) : Valuation τ sig (Elt F) := op2.result (op1.result (op0.result (V0 m d)))
/-- after the SparseCore call, -/
def V4 (d : Dev nD) : Valuation τ sig (Elt F) := Function.update (V3 m d) (Proc.devRef .tc main_v3) (gathered (ft m d) (fi m d))
/-- after the two operations on the rows, -/
def V6 (d : Dev nD) : Valuation τ sig (Elt F) := op5.result (op4.result (V4 m d))
/-- after the multiplication. -/
def V7 (d : Dev nD) : Valuation τ sig (Elt F) :=
  Function.update (V6 m d) (Proc.devRef .tc main_v6) (product (fun d b => V6 m d (Proc.devRef .tc b)) d)

/-! ## What they hold -/

theorem V3_v2 (d : Dev nD) : V3 m d (Proc.devRef .tc main_v2) = fi m d := by
  unfold V3
  rw [StableHlo.reshape_result', StableHlo.reshape_result', StableHlo.unary_result']
  rfl

theorem V3_arg2 (d : Dev nD) : V3 m d (Proc.devRef .tc main_arg2) = ft m d := by
  unfold V3
  rw [StableHlo.reshape_result_ne' (h := by decide), StableHlo.reshape_result_ne' (h := by decide), StableHlo.unary_result_ne' (h := by decide)]
  rfl

/-- The rows as @main returns them. -/
def rowsOut (x : S204800x128.Idx → Elt F .f32) : S4096x50x128.Idx → Elt F .f32 :=
  transpose S4096x50x128 [1, 0, 2] (shapeCast S50x4096x128 x shapeCasts_S204800x128_S50x4096x128) transposes_S50x4096x128_S4096x50x128_1_0_2

/-- A buffer no step writes ends as it began. -/
theorem V7_of_ne (d : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) : V7 m d (Proc.devRef .tc b) = m ((T d : Thread nD τ).loc b) := by
  have inj : ∀ {b' : Ref sig .tc}, b ≠ b' → (Proc.devRef .tc b : DevRef τ sig) ≠ Proc.devRef .tc b' :=
    fun h e => h (Proc.devRef_injective _ e)
  unfold V7
  rw [Function.update_of_ne (inj h6)]
  unfold V6
  rw [StableHlo.unary_result_ne' (h := h5), StableHlo.reshape_result_ne' (h := h4)]
  unfold V4
  rw [Function.update_of_ne (inj h3)]
  unfold V3
  rw [StableHlo.reshape_result_ne' (h := h2), StableHlo.reshape_result_ne' (h := h1), StableHlo.unary_result_ne' (h := h0)]
  rfl

theorem V6_of_ne (d : Dev nD) (b : Ref sig .tc) (h6 : b ≠ main_v6) : V6 m d (Proc.devRef .tc b) = V7 m d (Proc.devRef .tc b) := by
  unfold V7
  rw [Function.update_of_ne fun e => h6 (Proc.devRef_injective _ e)]

theorem V7_v5 (d : Dev nD) : V7 m d (Proc.devRef .tc main_v5) = rowsOut (gathered (ft m d) (fi m d)) := by
  rw [← V6_of_ne m d main_v5 (by decide)]
  unfold V6
  rw [StableHlo.unary_result', StableHlo.reshape_result']
  unfold V4
  rw [Function.update_self]
  rfl

theorem V7_v6 (d : Dev nD) : V7 m d (Proc.devRef .tc main_v6)
    = k1_pay1 (m ((T d : Thread nD τ).loc main_arg1)) (m ((T d : Thread nD τ).loc main_arg3)) := by
  unfold V7
  rw [Function.update_self]
  unfold product
  beta_reduce
  rw [V6_of_ne m d main_arg1 (by decide), V6_of_ne m d main_arg3 (by decide),
    V7_of_ne m d main_arg1 (by decide) (by decide) (by decide) (by decide) (by decide) (by decide) (by decide),
    V7_of_ne m d main_arg3 (by decide) (by decide) (by decide) (by decide) (by decide) (by decide) (by decide)]

end Cert.Proof.Embed

end
-- ==== Proof.Main.lean ====
/-
  @main's run on the TensorCore, and the program's run.

  @main is followed step by step from every unscoped buffer at the launch memory to every one at the last valuation:
  the operations on the host's arrays, the SparseCore call (entered with the ids, the table and the rows' array, left
  with the rows gathered), and the pipelined region. The program's run is that of all the threads together; its
  result is stated once, over any arithmetic.
-/
module

public import proofs.«01_k».proof.Proof.Values

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (m : (ℓ : Loc nD τ sig) → Buf (Elt F) ℓ) (ρ : Dev nD → PrngReg)

/-! ## The SparseCore call's buffers, out of the rest -/

/-- Every unscoped buffer of the TensorCore of device `d`, at a valuation. -/
abbrev heldAll (d : Dev nD) (V : Valuation τ sig (Elt F)) : sProp 𝕄 := StableHlo.held (T d : Thread nD τ) (Pipeline.ucRefs τ sig) V

/-- The buffers the SparseCore call reads and writes. -/
abbrev callRefs : Finset (DevRef τ sig) := {Proc.devRef .tc main_v2, Proc.devRef .tc main_arg2, Proc.devRef .tc main_v3}

theorem callRefs_sub : callRefs ⊆ Pipeline.ucRefs τ sig := by decide

theorem held_callRefs (d : Dev nD) (V : Valuation τ sig (Elt F)) :
    (StableHlo.held (T d : Thread nD τ) callRefs V : sProp 𝕄) = iprop((iLoc d ↦{fullShare} V (Proc.devRef .tc main_v2))
      ∗ (tLoc d ↦{fullShare} V (Proc.devRef .tc main_arg2)) ∗ oLoc d ↦{fullShare} V (Proc.devRef .tc main_v3)) := by
  unfold StableHlo.held callRefs
  rw [SparseCore.bigSep_insert' (by decide), SparseCore.bigSep_insert' (by decide), bigSep_singleton]

/-- The call's entry: its three buffers, the ids as dealt and the table as launched. -/
theorem call_split (d : Dev nD) : heldAll d (V3 m d) ⊢ iprop((iLoc d ↦{fullShare} fi m d) ∗ (tLoc d ↦{fullShare} ft m d)
    ∗ (oLoc d ↦{fullShare} V3 m d (Proc.devRef .tc main_v3))
    ∗ StableHlo.held (T d : Thread nD τ) (Pipeline.ucRefs τ sig \ callRefs) (V3 m d)) := by
  unfold heldAll
  rw [StableHlo.held_sub_split _ callRefs_sub, held_callRefs, V3_v2, V3_arg2]
  iintro ⟨⟨HI, HT, HO⟩, HR⟩
  isplitl [HI]; · iexact HI
  isplitl [HT]; · iexact HT
  isplitl [HO]; · iexact HO
  iexact HR

/-- The call's end: with the rows gathered, every buffer at the next valuation. -/
theorem call_join (d : Dev nD) : iprop((iLoc d ↦{fullShare} fi m d) ∗ (tLoc d ↦{fullShare} ft m d)
    ∗ (oLoc d ↦{fullShare} (gathered (ft m d) (fi m d) : Buf (Elt F) (oLoc d)))
    ∗ StableHlo.held (T d : Thread nD τ) (Pipeline.ucRefs τ sig \ callRefs) (V3 m d)) ⊢ heldAll d (V4 m d) := by
  have h2 : V4 m d (Proc.devRef .tc main_v2) = fi m d := by
    unfold V4; rw [Function.update_of_ne (by decide)]; exact V3_v2 m d
  have ht : V4 m d (Proc.devRef .tc main_arg2) = ft m d := by
    unfold V4; rw [Function.update_of_ne (by decide)]; exact V3_arg2 m d
  have h3 : V4 m d (Proc.devRef .tc main_v3) = gathered (ft m d) (fi m d) := by
    unfold V4; rw [Function.update_self]
  have hrest : (StableHlo.held (T d : Thread nD τ) (Pipeline.ucRefs τ sig \ callRefs) (V4 m d) : sProp 𝕄)
      = StableHlo.held (T d : Thread nD τ) (Pipeline.ucRefs τ sig \ callRefs) (V3 m d) :=
    StableHlo.held_congr _ fun b hb => by
      unfold V4
      rw [Function.update_of_ne]
      rintro rfl
      exact (Finset.mem_sdiff.mp hb).2 (by decide)
  unfold heldAll
  rw [StableHlo.held_sub_split _ callRefs_sub, held_callRefs, h2, ht, h3, hrest]
  iintro ⟨HI, HT, HO, HR⟩
  isplitr [HR]; swap; · iexact HR
  isplitl [HI]; · iexact HI
  isplitl [HT]; · iexact HT
  iexact HO

/-! ## @main -/

/-- What @main leaves: every unscoped buffer at the last valuation. -/
abbrev FIN (d : Dev nD) : sProp 𝕄 := heldAll d (V7 m d)

/-- The region at @main's valuations. -/
abbrev region : Pipeline.RegionSeg (pcfgs (F := F)) adm (mmDats fun d b => V6 m d (Proc.devRef .tc b)) (none : HIx 1) defs₀ Variants.none
    (K (F := F)).L (K (F := F)).lev 0 :=
  mmRegion (fun d b => V6 m d (Proc.devRef .tc b)) (fun d b => V7 m d (Proc.devRef .tc b))
    (fun d => by unfold V7; rw [Function.update_self])
    (fun d b h => (V6_of_ne m d b h).symm)

/-- The region's call as @main writes it is the pipeline's own call, lifted among the SparseCore's labels. -/
theorem call_lift : (Prog.lift (.customCall (SparseCore.inner (Pipeline.entry 0)) ()) :
      Prog (TpuEff nD τ sig (Elt F) (SparseCore.Sig (Pipeline.Sig Λ₀ (Fin 1) fun p => (pcfgs (F := F) p).Adm) 1) .tc) PUnit)
    = SparseCore.liftProg (.op (.customCall (Pipeline.entry 0) ()) fun u => .ret u :
      Prog (TpuEff nD τ sig (Elt F) (Pipeline.Sig Λ₀ (Fin 1) fun p => (pcfgs (F := F) p).Adm) .tc) PUnit) := by
  rw [SparseCore.liftProg_op]
  rfl

/-- The pipeline's own call, from the state the SparseCore call leaves. -/
theorem wp_entry (d : Dev nD) (Φ : PUnit → sProp 𝕄) :
    iprop(levAts (K (F := F)).L (K (F := F)).lev ∗ boundary (T d : Thread nD τ) ∗ heldAll d (V6 m d) ∗ idle (F := F) d ∗ G (F := F) d
        ∗ (iprop(boundary (T d : Thread nD τ) ∗ heldAll d (V7 m d) ∗ idle (F := F) d) -∗ Φ ⟨⟩))
      ⊢ wp frame (wpE (Pipeline.defs (pcfgs (F := F)) defs₀) (Variants.lift Variants.none) (T d) none) Set.univ
          (.op (.customCall (Pipeline.entry 0) ()) fun u => .ret u) Φ := by
  refine (show _ ⊢ _ from ?_).trans (Pipeline.RegionSeg.wp (pcfgs (F := F)) adm (mmDats fun d b => V6 m d (Proc.devRef .tc b)) (none : HIx 1) pins_inj EB
    defs₀ Variants.none (K (F := F)).L (K (F := F)).lev (region m) d none (fun _ h => nomatch h) (fun u => .ret u) Φ)
  unfold G
  rw [show (region m).pre d = iprop(unscopedBufs d (fun b => V6 m d (Proc.devRef .tc b)) ∗ idle (F := F) d) from rfl,
    show (region m).post d = iprop(unscopedBufs d (fun b => V7 m d (Proc.devRef .tc b)) ∗ idle (F := F) d) from rfl]
  rw [show (heldAll d (V6 m d) : sProp 𝕄) = unscopedBufs d (fun b => V6 m d (Proc.devRef .tc b)) from (Pipeline.unscopedBufs_held d (V6 m d)).symm,
    show (heldAll d (V7 m d) : sProp 𝕄) = unscopedBufs d (fun b => V7 m d (Proc.devRef .tc b)) from (Pipeline.unscopedBufs_held d (V7 m d)).symm]
  iintro ⟨Hlv, Hb, HB, HO, ⟨Hc, Ht⟩, Hk⟩
  isplitl [Hk]
  · iintro ⟨Hb, HB, HO⟩
    rw [wp_ret]
    imodintro
    iapply Hk
    isplitl [Hb]; · iexact Hb
    isplitl [HB]; · iexact HB
    iexact HO
  isplitl [Hb]; · iexact Hb
  isplitl [HB HO]
  · isplitl [HB]; · iexact HB
    iexact HO
  isplitl [Hlv]; · iexact Hlv
  isplitl [Hc]; · iexact Hc
  iexact Ht

/-- The region's call as @main makes it. -/
theorem wp_region (d : Dev nD) (Φ : PUnit → sProp 𝕄) :
    iprop(levAts (K (F := F)).L (K (F := F)).lev ∗ boundary (T d : Thread nD τ) ∗ heldAll d (V6 m d) ∗ idle (F := F) d ∗ G (F := F) d
        ∗ (iprop(boundary (T d : Thread nD τ) ∗ heldAll d (V7 m d) ∗ idle (F := F) d) -∗ Φ ⟨⟩))
      ⊢ wp frame (wpE ((K (F := F)).defs (D (F := F))) 𝒱 (T d) none) Set.univ
          (Prog.lift (.customCall (SparseCore.inner (Pipeline.entry 0)) ())) Φ := by
  rw [call_lift]
  exact (wp_entry m d Φ).trans ((K (F := F)).wp_liftProg (D (F := F)) 𝒱 (T d) Set.univ none _ _)

/-- @main on device `d`'s TensorCore, from the launch to its return. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((T d : Thread nD τ).loc b)) : sProp 𝕄) = heldAll d (V0 m d) from Pipeline.unscopedBufs_held d (V0 m d)]
  simp only [main, wp_bind, wp_pure]
  iintro ⟨#Hctx, Hst, ⟨Hb, HB, Hts, -⟩, HG⟩
  ihave #Hlv := ((K (F := F)).ctx_levAts κ) $$ Hctx
  iapply (StableHlo.wp_hlo_within 𝒱 (T d) none Set.univ (op := op0) (Pipeline.sub_ucRefs _ (StableHlo.unary_bufs_sub ..)) (V := V0 m d)) $$ [Hb HB]
  · isplitl [Hb] <;> iassumption
  iintro ⟨Hb, HB⟩
  rw [wp_ret]; imodintro
  iapply (StableHlo.wp_hlo_within 𝒱 (T d) none Set.univ (op := op1) (Pipeline.sub_ucRefs _ (StableHlo.reshape_bufs_sub ..)) (V := op0.result (V0 m d))) $$ [Hb HB]
  · isplitl [Hb] <;> iassumption
  iintro ⟨Hb, HB⟩
  rw [wp_ret]; imodintro
  iapply (StableHlo.wp_hlo_within 𝒱 (T d) none Set.univ (op := op2) (Pipeline.sub_ucRefs _ (StableHlo.reshape_bufs_sub ..)) (V := op1.result (op0.result (V0 m d)))) $$ [Hb HB]
  · isplitl [Hb] <;> iassumption
  iintro ⟨Hb, HB⟩
  rw [wp_ret]; imodintro
  ihave HB := (show StableHlo.held (T d : Thread nD τ) (Pipeline.ucRefs τ sig) (op2.result (op1.result (op0.result (V0 m d)))) ⊢ _ from
    call_split m d) $$ HB
  icases HB with ⟨HI, HT, HO, HR⟩
  iapply ((K (F := F)).wp_run (D (F := F)) 𝒱 (EH := EH) (P := P m) κ d 0) $$ [Hst HI HT HO HR Hb Hts HG]
  isplitr; · iexact Hctx
  isplitl [Hst]; · iexact Hst
  isplitl [HI HT HO]
  · iapply (st0 m d _)
    isplitl [HI]; · iexact HI
    isplitl [HT]; · iexact HT
    iexact HO
  iintro ⟨Hst, Hdn⟩
  ihave Hdn := (dn0 m d) $$ Hdn
  icases Hdn with ⟨HI, HT, HO⟩
  ihave HB := (call_join m d) $$ [HI HT HO HR]
  · isplitl [HI]; · iexact HI
    isplitl [HT]; · iexact HT
    isplitl [HO]; · iexact HO
    iexact HR
  iapply (StableHlo.wp_hlo_within 𝒱 (T d) none Set.univ (op := op4) (Pipeline.sub_ucRefs _ (StableHlo.reshape_bufs_sub ..)) (V := V4 m d)) $$ [Hb HB]
  · isplitl [Hb] <;> iassumption
  iintro ⟨Hb, HB⟩
  rw [wp_ret]; imodintro
  iapply (StableHlo.wp_hlo_within 𝒱 (T d) none Set.univ (op := op5) (Pipeline.sub_ucRefs _ (StableHlo.unary_bufs_sub ..)) (V := op4.result (V4 m d))) $$ [Hb HB]
  · isplitl [Hb] <;> iassumption
  iintro ⟨Hb, HB⟩
  rw [wp_ret]; imodintro
  unfold SparseCore.Cfg.tcSt
  icases Hst with ⟨⟨%W, %hW, HO⟩, Hst⟩
  rw [show (K (F := F)).Otc (N := 1) d ((0 : Fin 1).val + 1) = 0 from (K (F := F)).Otc_end d (le_refl 1),
    show (K (F := F)).Otc (N := 1) d 1 = 0 from (K (F := F)).Otc_end d (le_refl 1)]
  iapply (wp_region m d _)
  isplitr; · iexact Hlv
  isplitl [Hb]; · iexact Hb
  isplitl [HB]; · iexact HB
  isplitl [HO]
  · iexists W
    isplitr; swap; · iexact HO
    ipureintro; exact hW
  isplitl [HG]; · iexact HG
  iintro ⟨Hb, HB, ⟨%W', %hW', HO⟩⟩
  imodintro
  isplitl [HO Hst]
  · isplitl [HO]
    · iexists W'
      isplitr; swap; · iexact HO
      ipureintro; exact hW'
    iexact Hst
  isplitl [HB]; · iexact HB
  isplitl [Hb] <;> iassumption

end Cert.Proof.Embed

end
-- ==== Proof.Run.lean ====
/-
  The program's run: all the device's threads together, over any arithmetic.

  From a memory whose token ids are all below the table's height, the program runs to its end with every semaphore at
  zero, the two results at the values the valuations give them, and the arguments unchanged.
-/
module

public import proofs.«01_k».proof.Proof.Main

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (m : (ℓ : Loc nD τ sig) → Buf (Elt F) ℓ) (ρ : Dev nD → PrngReg)

/-- What the final memory of device `d` is known to hold. -/
def fq (d : Dev nD) (s' : Phys nD τ sig (Elt F)) : Prop :=
  ∀ b : DevRef τ sig, b ∈ Pipeline.ucRefs τ sig → s'.mem.mem (d, b) = V7 m d b

/-- The buffers @main holds at its end are the final memory's. -/
theorem hfin (d : Dev nD) (s' : Phys nD τ sig (Elt F)) : iprop(FIN m d ∗ SI s') ⊢ (⌜fq m d s'⌝ : sProp 𝕄) := by
  have one : ∀ b : DevRef τ sig, iprop(FIN m d ∗ SI s') ⊢ (⌜b ∈ Pipeline.ucRefs τ sig → s'.mem.mem (d, b) = V7 m d b⌝ : sProp 𝕄) := by
    intro b
    by_cases hb : b ∈ Pipeline.ucRefs τ sig
    · unfold FIN heldAll StableHlo.held
      rw [show (bigSep (Pipeline.ucRefs τ sig) fun b => (((T d : Thread nD τ).1, b) ↦{fullShare} V7 m d b : sProp 𝕄))
        = iprop((((T d : Thread nD τ).1, b) ↦{fullShare} V7 m d b)
          ∗ bigSep ((Pipeline.ucRefs τ sig).erase b) fun b => ((T d : Thread nD τ).1, b) ↦{fullShare} V7 m d b) from bigSep_erase hb]
      iintro ⟨⟨Hb, -⟩, HSI⟩
      ihave H := (SI_pointsTo_agree (st := s') (ℓ := (d, b)) (I := Finset.univ) (q := fullShare) (f := V7 m d b)) $$ [HSI Hb]
      · isplitl [HSI] <;> iassumption
      icases H with %h
      ipureintro
      exact fun _ => funext fun i => h i (Finset.mem_univ i)
    · iintro -
      ipureintro
      exact fun h => absurd h hb
  exact (forall_intro one).trans pure_forall.2

/-- What the program leaves. -/
def QC : PUnit × MemSt nD τ sig (Elt F) → Prop := fun r =>
  (∀ d : Dev nD,
    r.2.mem ((T d : Thread nD τ).loc main_v5) = rowsOut (gathered (ft m d) (fi m d))
    ∧ r.2.mem ((T d : Thread nD τ).loc main_v6) = k1_pay1 (m ((T d : Thread nD τ).loc main_arg1)) (m ((T d : Thread nD τ).loc main_arg3))
    ∧ r.2.mem ((T d : Thread nD τ).loc main_arg0) = m ((T d : Thread nD τ).loc main_arg0)
    ∧ r.2.mem ((T d : Thread nD τ).loc main_arg1) = m ((T d : Thread nD τ).loc main_arg1)
    ∧ r.2.mem ((T d : Thread nD τ).loc main_arg2) = m ((T d : Thread nD τ).loc main_arg2)
    ∧ r.2.mem ((T d : Thread nD τ).loc main_arg3) = m ((T d : Thread nD τ).loc main_arg3))
  ∧ r.2.sem = fun _ => 0

theorem qc_of_fq (s' : Phys nD τ sig (Elt F)) (h : ∀ d, fq m d s') (hz : s'.mem.sem = fun _ => 0) : QC m (⟨⟩, s'.mem) := by
  have arg : ∀ (d : Dev nD) (b : Ref sig .tc), (Proc.devRef .tc b : DevRef τ sig) ∈ Pipeline.ucRefs τ sig → b ≠ main_v0 → b ≠ main_v1 →
      b ≠ main_v2 → b ≠ main_v3 → b ≠ main_v4 → b ≠ main_v5 → b ≠ main_v6 →
      s'.mem.mem ((T d : Thread nD τ).loc b) = m ((T d : Thread nD τ).loc b) :=
    fun d b hb h0 h1 h2 h3 h4 h5 h6 => (h d _ hb).trans (V7_of_ne m d b h0 h1 h2 h3 h4 h5 h6)
  refine ⟨fun d => ⟨(h d (Proc.devRef .tc main_v5) (by decide)).trans (V7_v5 m d), (h d (Proc.devRef .tc main_v6) (by decide)).trans (V7_v6 m d), ?_, ?_, ?_, ?_⟩, hz⟩
  · exact arg d main_arg0 (by decide) (by decide) (by decide) (by decide) (by decide) (by decide) (by decide) (by decide)
  · exact arg d main_arg1 (by decide) (by decide) (by decide) (by decide) (by decide) (by decide) (by decide) (by decide)
  · exact arg d main_arg2 (by decide) (by decide) (by decide) (by decide) (by decide) (by decide) (by decide) (by decide)
  · exact arg d main_arg3 (by decide) (by decide) (by decide) (by decide) (by decide) (by decide) (by decide) (by decide)

/-- The program's run. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (qc_of_fq m)

end Cert.Proof.Embed

end
-- ==== Proof.Frames.lean ====
/-
  The frames of the kernel and of its idealization.

  The stated precondition says that every token id, read as a signed word, is at least 0 and below the table's height;
  such a word is its own unsigned value. Under it the run proved in Run.lean gives both frames: the idealized
  program's at the extended reals, and the kernel's, whose text is the same, at the machine's words.
-/
module

public import proofs.«01_k».proof.Defs
public import proofs.«01_k».proof.Proof.Run
public import proofs.«01_k».proof.Proof.Gen.Kernel
public import proofs.«01_k».proof.Proof.Gen.Pre_ids_in_vocab
public import Idealize.ShloMosaic.Lib.ReduceAll

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-- A signed word at least 0 and below 100000 is an unsigned value below 100000. -/
theorem lt_of_signed (w : BitVec 32) (h0 : (0 : Int) ≤ w.toInt) (h1 : w.toInt < 100000) : w.toNat < 100000 := by
  have h := BitVec.toInt_eq_toNat_cond w
  have := w.isLt
  split at h <;> omega

/-- The precondition, evaluated to true, bounds every id. -/
theorem ids_lt [FloatOps F] (x : IVec S4096x50 32) (y : FVec F S4096x128 .f32) (t : FVec F S100000x128 .f32) (w : FVec F S128x128 .f32)
    (h : Cert.Pre_ids_in_vocab.fn (F := F) x y t w = fun _ => 1#1) (j : S4096x50.Idx) : (x j).toNat < 100000 := by
  have e := congrFun h (fun a => a.elim0)
  have both : ∀ p q : BitVec 1, IntOp.andi p q = 1#1 → p = 1#1 ∧ q = 1#1 := by decide
  obtain ⟨e0, e1⟩ := both _ _ e
  have h0 := IntOp.cmpi_sge.1 (Host.reduce_andi_all _ _ _ _ _ e0 j)
  have h1 := IntOp.cmpi_slt.1 (Host.reduce_andi_all _ _ _ _ _ e1 j)
  exact lt_of_signed _ h0 h1

/-- The idealized program's precondition is what its run asks. -/
theorem ok_of_pre (m : (ℓ : Loc nD τ sig) → Buf (Elt Ideal) ℓ) (h : Cert.Pre_KernelIdeal m) : PreOK (F := Ideal) m :=
  fun d j => ids_lt _ _ _ _ (h d) j

/-- The kernel's precondition likewise. -/
theorem ok_of_pre_kernel (m : (ℓ : Loc nD τ sig) → Buf (Elt Bits) ℓ) (h : Cert.Pre_Kernel m) : PreOK (F := Bits) m :=
  fun d j => ids_lt _ _ _ _ (h d) j

/-- The idealized program's frame. -/
theorem frame_kernelIdeal : Cert.quiescent_KernelIdeal := fun m ρ hpre =>
  (θ_run Cert.KernelIdeal.defs _ _).mono (fun _ h => ⟨fun c => (h.1 c).2.2, h.2⟩) (run_main (F := Ideal) m ρ (ok_of_pre m hpre))

/-- The kernel's body table is the idealized program's, entry by entry. -/
theorem bodies_eq [FloatOps F] : Cert.Kernel.defs₀ (F := F) = Cert.KernelIdeal.defs₀ (F := F) := by
  funext p l a
  match p, l, a with
  | .tc, 0, _ => rfl
  | .tc, 1, (_, _) => rfl
  | .scScalar _, 0, _ => rfl
  | .scScalar _, 1, _ => rfl
  | .scVector _ _, 0, _ => rfl
  | .scVector _ _, 1, _ => rfl

/-- So the two programs have the same table of labels. -/
theorem defs_eq [FloatOps F] : Cert.Kernel.defs (F := F) = Cert.KernelIdeal.defs (F := F) :=
  congrArg (fun e => (Cert.KernelIdeal.sc (F := F)).defs (Pipeline.defs (Cert.KernelIdeal.pcfgs (F := F)) e)) bodies_eq

/-- The kernel's run. -/
theorem run_kernel (m : (ℓ : Loc Cert.Kernel.nD Cert.Kernel.τ Cert.Kernel.sig) → Buf (Elt Bits) ℓ) (ρ : Dev Cert.Kernel.nD → PrngReg) (h : PreOK (F := Bits) m) :
    θ_run (Cert.Kernel.defs (F := Bits)) (Cert.Kernel.threads (F := Bits)) ⟨m, fun _ => 0, ρ⟩ (QC (F := Bits) m) := by
  rw [defs_eq]
  exact run_main (F := Bits) m ρ h

/-- The kernel's frame. -/
theorem frame_kernel : Cert.quiescent_Kernel := fun m ρ hpre =>
  (θ_run Cert.Kernel.defs _ _).mono (fun _ h => ⟨fun c => (h.1 c).2.2, h.2⟩) (run_kernel m ρ (ok_of_pre_kernel m hpre))

end Cert.Proof.Embed

end
-- ==== Proof.Answer.lean ====
/-
  What the two results are, element by element, in words that name no program.

  The first result is the table's rows taken at the ids. The program lays the ids out for the 32 tiles, gathers rows in
  that order and lays the rows out again, and the two layouts cancel. The second is a product of matrices: the kernel
  contracts the last axes of both operands, and the reference transposes the weight first.
-/
module

public import proofs.«01_k».proof.Proof.Run
public import proofs.«01_k».proof.Proof.Gen.ReferenceIdeal
public import Idealize.ShloMosaic.PureOps.Ideal.Laws
public import Idealize.ShloMosaic.Lib.Pipeline.Value

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-- The table's rows at the ids. -/
def taken {α : Type} (t : S100000x128.Idx → α) (a : IVec S4096x50 32) : S4096x50x128.Idx → α := fun i =>
  t (ix2 (rowNo (a (ix2 (i 0) (i 1)))) (i 2))

/-- The ids as the tiles see them: position `r` of the flat order is sequence place `r / 4096` of sentence `r % 4096`. -/
theorem tokens_apply (a : IVec S4096x50 32) (j : S32x50x128.Idx) (b : Fin 4096) (s : Fin 50)
    (h : ((j 0).val * 50 + (j 1).val) * 128 + (j 2).val = s.val * 4096 + b.val) : tokens a j = a (ix2 b s) := by
  unfold tokens
  refine (shapeCast_apply _ _ j (ix1 ⟨s.val * 4096 + b.val, by omega⟩) ?_).trans
    ((shapeCast_apply _ _ _ (ix2 s b) ?_).trans (transpose_apply _ _ _ _ (ix2 b s) ?_))
  · rw [Shape.rowMajor_val_one, Shape.rowMajor_val_three]
    exact h.symm
  · rw [Shape.rowMajor_val_one, Shape.rowMajor_val_two]
    rfl
  · intro c
    match c with
    | ⟨0, _⟩ => rfl
    | ⟨1, _⟩ => rfl

/-- The gathered rows, laid out as the result, are the table's rows at the ids. -/
theorem rowsOut_gathered [FloatOps F] (t : FVec F S100000x128 .f32) (a : IVec S4096x50 32) : rowsOut (gathered t (tokens a)) = taken t a := by
  funext i
  have hb : (i 0).val < 4096 := (i 0).isLt
  have hs : (i 1).val < 50 := (i 1).isLt
  have he : (i 2).val < 128 := (i 2).isLt
  unfold rowsOut
  refine (transpose_apply _ _ _ i (ix3 (n0 := 50) (n1 := 4096) (n2 := 128) (i 1) (i 0) (i 2)) ?_).trans
    ((shapeCast_apply _ _ _ (ix2 (n0 := 204800) (n1 := 128) ⟨(i 1).val * 4096 + (i 0).val, by omega⟩ (i 2)) ?_).trans ?_)
  · intro c
    match c with
    | ⟨0, _⟩ => rfl
    | ⟨1, _⟩ => rfl
    | ⟨2, _⟩ => rfl
  · rw [Shape.rowMajor_val_two, Shape.rowMajor_val_three]
    rfl
  · unfold gathered taken
    refine congrArg (fun w => t (ix2 (rowNo w) (i 2))) (tokens_apply a _ (i 0) (i 1) ?_)
    show (((i 1).val * 4096 + (i 0).val) / 6400 * 50 + ((i 1).val * 4096 + (i 0).val) % 6400 / 128) * 128
      + ((i 1).val * 4096 + (i 0).val) % 128 = (i 1).val * 4096 + (i 0).val
    omega

/-- Over the extended reals the kernel's product is the reference's. -/
theorem product_eq (x : FVec Ideal S4096x128 .f32) (w : FVec Ideal S128x128 .f32) (h : S128x128.Transposes [1, 0] S128x128) :
    k1_pay1 (F := Ideal) x w
      = Host.dotGeneral (F := Ideal) Cert.ReferenceIdeal.dot_S4096x128_S128x128_S4096x128_1_0_0_1_n_n none x (transpose S128x128 [1, 0] w h) := by
  funext j
  unfold k1_pay1
  refine (Idealize.ShloMosaic.Ideal.matmul_constant_zero_apply _ _ _ _ j).trans (Eq.trans ?_ (Idealize.ShloMosaic.Ideal.dotGeneral_apply _ _ _ _ _ j).symm)
  refine Finset.sum_congr rfl fun k _ => ?_
  refine congrArg₂ (· * ·) rfl (transpose_apply _ _ _ _ _ ?_).symm
  intro c
  match c with
  | ⟨0, _⟩ => rfl
  | ⟨1, _⟩ => rfl

end Cert.Proof.Embed

end
-- ==== Proof.Reference.lean ====
/-
  The reference's first result. Under the precondition no id is negative, so none is wrapped; every id is a row of the
  table, so the mask of rows in range is all true; and the gather reads, unclamped, the table's row at the id.
-/
module

public import proofs.«01_k».proof.Proof.Answer
public import proofs.«01_k».proof.Proof.Gen.ReferenceIdeal.Run
public import Idealize.ShloMosaic.Lib.ReduceAll
public import Idealize.ShloMosaic.Lib.Quiescent

@[expose] public section

noncomputable section

namespace Cert.Proof.Ref

open Cert.ReferenceIdeal Cert.ReferenceIdeal.Gen
open Idealize.ShloMosaic Idealize.SL.Sem Idealize.ShloMosaic.ValueIdx
open Cert.Proof.Embed (rowNo rowNo_of_lt taken)

variable {F : FTy → Type} [FloatOps F]

/-- A word below the table's height, read signed, is its value. -/
theorem toInt_of_lt {w : BitVec 32} (h : w.toNat < 100000) : w.toInt = (w.toNat : Int) := by
  have e := BitVec.toInt_eq_toNat_cond w
  split at e <;> omega

/-- Ids with the negative ones wrapped: none is. -/
theorem wrapped_eq (a z n : IVec S4096x50 32) (hz : z = fun _ => 0#32) (h : ∀ j, (a j).toNat < 100000) :
    select (cmpi .slt a z) n a = a := by
  funext j
  subst hz
  have h1 : IntOp.cmpi .slt (a j) 0#32 ≠ 1#1 := fun e => by
    have e1 := IntOp.cmpi_slt.1 e
    rw [toInt_of_lt (h j)] at e1
    have : (0#32 : BitVec 32).toInt = 0 := by decide
    omega
  show (if IntOp.cmpi .slt (a j) 0#32 = 1 then n j else a j) = a j
  exact if_neg h1

/-- The mask of rows in range is true everywhere. -/
theorem mask_one (b lo hi : IVec S4096x50x1 32) (hlo : lo = fun _ => 0#32) (hhi : hi = fun _ => 99999#32) (h : ∀ j, (b j).toNat < 100000)
    (c : IVec S_ 1) (hc : c = fun _ => 1#1) (j : S4096x50.Idx) :
    Host.reduce IntOp.andi (andi (cmpi .sge b lo) (cmpi .sle b hi)) c reducesTo_S4096x50x1_S4096x50_d2 h_S_ j = 1#1 := by
  subst hlo hhi hc
  refine Host.reduce_andi_one _ _ _ _ j rfl fun i => ?_
  have h0 : IntOp.cmpi .sge (b i) 0#32 = 1#1 := IntOp.cmpi_sge.2 (by
    rw [toInt_of_lt (h i)]
    have : (0#32 : BitVec 32).toInt = 0 := by decide
    omega)
  have h1 : IntOp.cmpi .sle (b i) 99999#32 = 1#1 := by
    have e : IntOp.cmpi .sle (b i) 99999#32 = BitVec.ofBool (BitVec.sle (b i) 99999#32) := rfl
    rw [e, BitVec.sle_eq_decide, toInt_of_lt (h i)]
    have h9 : (99999#32 : BitVec 32).toInt = 99999 := by decide
    rw [h9, decide_eq_true (by have := h i; omega)]
    rfl
  show IntOp.andi (IntOp.cmpi .sge (b i) 0#32) (IntOp.cmpi .sle (b i) 99999#32) = 1#1
  rw [h0, h1]
  rfl

/-- The gather at `(b, s, e)`: the table at the row the id names, column `e`. -/
theorem gather_apply (t : FVec F S100000x128 .f32) (a : IVec S4096x50 32) (h : ∀ j, (a j).toNat < 100000) :
    Host.gather gather_S100000x128_S4096x50x1_S4096x50x128_2_0_n_n_0_2_1128 t (broadcastInDim S4096x50x1 ![0, 1] bcast_S4096x50_S4096x50x1_0_1 a)
      = taken t a := by
  funext i
  unfold Host.gather taken
  refine congrArg t (funext fun x => Fin.ext ?_)
  show GatherDims.start gather_S100000x128_S4096x50x1_S4096x50x128_2_0_n_n_0_2_1128 i _ x
    + GatherDims.batchCoord gather_S100000x128_S4096x50x1_S4096x50x128_2_0_n_n_0_2_1128 i x
    + GatherDims.offCoord gather_S100000x128_S4096x50x1_S4096x50x128_2_0_n_n_0_2_1128 i x = _
  rw [GatherDims.batchCoord_eq_zero _ _ _ List.not_mem_nil, Nat.add_zero]
  match x with
  | ⟨0, _⟩ =>
    rw [GatherDims.offCoord_eq_zero _ _ _ (fun q => ((GatherDims.mem_sKept _ _).mp q).1 (List.mem_singleton.mpr rfl)), Nat.add_zero]
    unfold GatherDims.start
    refine (dif_pos (List.mem_singleton.mpr rfl)).trans ?_
    refine (congrArg (fun w : BitVec 32 => min w.toInt.toNat 99999)
      (broadcastInDim_apply _ bcast_S4096x50_S4096x50x1_0_1 a _ (ix2 (n0 := 4096) (n1 := 50) (i 0) (i 1)) fun c => by
        match c with
        | ⟨0, _⟩ => rfl
        | ⟨1, _⟩ => rfl)).trans ?_
    show min (a (ix2 (n0 := 4096) (n1 := 50) (i 0) (i 1))).toInt.toNat 99999 = min (a (ix2 (n0 := 4096) (n1 := 50) (i 0) (i 1))).toNat 99999
    rw [toInt_of_lt (h _), Int.toNat_natCast]
  | ⟨1, _⟩ =>
    unfold GatherDims.start GatherDims.offCoord
    refine (congrArg₂ (· + ·) (dif_neg ?_) (dif_pos ?_)).trans ((Nat.zero_add _).trans ?_)
    · show (1 : Fin 2) ∉ [(0 : Fin 2)]
      decide
    · show (1 : Fin 2) ∈ gather_S100000x128_S4096x50x1_S4096x50x128_2_0_n_n_0_2_1128.sKept
      decide
    · rfl

/-- The ids with 100000 added to the negative ones, as the reference computes them. -/
def wrap (a : IVec S4096x50 32) : IVec S4096x50 32 :=
  select (cmpi .slt a (broadcastInDim S4096x50 ![] bcast_S_S4096x50 (constantI S_ 32 0#32))) (addi a (broadcastInDim S4096x50 ![] bcast_S_S4096x50 (constantI S_ 32 100000#32))) a

/-- The same with a last axis of one. -/
def column (a : IVec S4096x50 32) : IVec S4096x50x1 32 := broadcastInDim S4096x50x1 ![0, 1] bcast_S4096x50_S4096x50x1_0_1 (wrap a)

/-- The reference's first result, as it computes it: the gathered rows where the id is in range, and a NaN elsewhere. -/
def rowsRef (t : FVec F S100000x128 .f32) (a : IVec S4096x50 32) : FVec F S4096x50x128 .f32 :=
  select (broadcastInDim S4096x50x128 ![0, 1] bcast_S4096x50_S4096x50x128_0_1 (Host.reduce IntOp.andi (andi (cmpi .sge (column a) (broadcastInDim S4096x50x1 ![] bcast_S_S4096x50x1 (constantI S_ 32 0#32))) (cmpi .sle (column a) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_)) (Host.gather gather_S100000x128_S4096x50x1_S4096x50x128_2_0_n_n_0_2_1128 t (column a)) (broadcastInDim S4096x50x128 ![] bcast_S_S4096x50x128 (constant S_ .f32 0x7FC00000#32))

/-- A selection at an index where the condition holds. -/
theorem select_one {s : Shape} {α : Type} (c : IVec s 1) (x y : s.Idx → α) (i : s.Idx) (h : c i = 1#1) : select c x y i = x i :=
  if_pos h

/-- A broadcast of a mask that holds everywhere holds everywhere. -/
theorem broadcast_one {s t : Shape} (dims : Fin s.rank → Fin t.rank) (hb : s.BroadcastsInDim t dims) (x : IVec s 1) (h : ∀ j, x j = 1#1)
    (i : t.Idx) : broadcastInDim t dims hb x i = 1#1 := h _

/-- Under the precondition the ids stay as they are. -/
theorem wrap_eq (a : IVec S4096x50 32) (h : ∀ j, (a j).toNat < 100000) : wrap a = a := wrapped_eq a _ _ rfl h

/-- Under the precondition the reference's first result is the table's rows at the ids. -/
theorem rowsRef_eq (t : FVec F S100000x128 .f32) (a : IVec S4096x50 32) (h : ∀ j, (a j).toNat < 100000) : rowsRef t a = taken t a := by
  have hc : column a = broadcastInDim S4096x50x1 ![0, 1] bcast_S4096x50_S4096x50x1_0_1 a := congrArg _ (wrap_eq a h)
  funext i
  unfold rowsRef
  refine (select_one _ _ _ i (broadcast_one _ _ _ (fun j => mask_one (column a) _ _ rfl rfl (fun k => ?_) _ rfl j) i)).trans ?_
  · rw [hc]
    exact h _
  · rw [hc]
    exact congrFun (gather_apply t a h) i

/-- What the reference leaves. -/
theorem run_ref (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v0) = rowsRef (m ((c.tc : Thread nD τ).loc main_arg2)) (m ((c.tc : Thread nD τ).loc main_arg0))
      ∧ r.2.mem ((c.tc : Thread nD τ).loc main_v2) = Host.dotGeneral dot_S4096x128_S128x128_S4096x128_1_0_0_1_n_n none (m ((c.tc : Thread nD τ).loc main_arg1))
          (transpose S128x128 [1, 0] (m ((c.tc : Thread nD τ).loc main_arg3)) transposes_S128x128_S128x128_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨h, sem_eq_zero_of_no_sems (by decide) r.2⟩) (Cert.ReferenceIdeal.Value.run m ρ)

end Cert.Proof.Ref

end
-- ==== Proof.Claims.lean ====
/-
  The claims: the reference's frame with and without the precondition, and the equality of the two programs' results over
  the extended reals.
-/
module

public import proofs.«01_k».proof.Proof.Frames
public import proofs.«01_k».proof.Proof.Reference

@[expose] public section

noncomputable section

namespace Cert.Proof.Embed

open Idealize.ShloMosaic Idealize.SL.Sem

/-- The reference's frame. -/
theorem frame_reference : Cert.quiescent_ReferenceIdeal := fun m ρ _ =>
  (θ_run Cert.ReferenceIdeal.defs _ _).mono (fun _ h => ⟨fun c => (h.1 c).2.2, h.2⟩) (Cert.Proof.Ref.run_ref (F := Ideal) m ρ)

/-- The reference's frame under the precondition. -/
theorem frame_reference_pre : Cert.quiescent_ReferenceIdeal_pre_ids_in_vocab := fun m ρ _ =>
  (θ_run Cert.ReferenceIdeal.defs _ _).mono (fun _ h => ⟨fun c => (h.1 c).2.2, h.2⟩) (Cert.Proof.Ref.run_ref (F := Ideal) m ρ)

/-- Over the extended reals, from equal arguments that meet the precondition, both programs end with the table's rows at
    the ids and with the product of the features and the transposed weight. -/
theorem algebraic : Cert.algebraic_KernelIdeal_ReferenceIdeal := by
  intro m g m' g' hpre hagree
  have hok := ok_of_pre m hpre
  refine ⟨fun c => taken (m ((c.tc : Thread Cert.KernelIdeal.nD Cert.KernelIdeal.τ).loc Cert.KernelIdeal.main_arg2))
      (m ((c.tc : Thread Cert.KernelIdeal.nD Cert.KernelIdeal.τ).loc Cert.KernelIdeal.main_arg0)),
    fun c => Cert.KernelIdeal.Gen.k1_pay1 (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun r h c => ?_) (run_main (F := Ideal) m g hok)
    obtain ⟨h0, h1, ha⟩ := h.1 c
    exact ⟨h0.trans (rowsOut_gathered (F := Ideal) _ _), h1, ha⟩
  · refine (θ_run Cert.ReferenceIdeal.defs _ _).mono (fun r h c => ?_) (Cert.Proof.Ref.run_ref (F := Ideal) m' g')
    obtain ⟨h0, h1, ha⟩ := h.1 c
    obtain ⟨e0, e1, e2, e3⟩ := hagree c
    refine ⟨h0.trans ?_, h1.trans ?_, ha⟩
    · rw [e0, e2]
      exact Cert.Proof.Ref.rowsRef_eq (F := Ideal) _ _ (hok c)
    · rw [e1, e3]
      exact (product_eq _ _ _).symm

end Cert.Proof.Embed

end
-- ==== Proof.lean ====
/-
  The proof of `Cert.Claim`: the frames of the kernel, of its idealization and of the reference (with and without the
  precondition), the idealization's faithfulness, which has no rewrite to account for, and the equality of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_vocab
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_ids_in_vocab.Gen.facts,
  Embed.frame_kernel, Embed.frame_kernelIdeal, Embed.frame_reference, Embed.frame_reference_pre, trivial, Embed.algebraic⟩

end Cert.Proof

end
